-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x1024 : Shape := ⟨2, ![4096, 1024]⟩
abbrev S11x8 : Shape := ⟨2, ![11, 8]⟩
abbrev S_ : Shape := ⟨0, ![]⟩
abbrev S1x1 : Shape := ⟨2, ![1, 1]⟩
abbrev S328x128 : Shape := ⟨2, ![328, 128]⟩
abbrev S1x328x128 : Shape := ⟨3, ![1, 328, 128]⟩
abbrev S736x128 : Shape := ⟨2, ![736, 128]⟩
abbrev S1x736x128 : Shape := ⟨3, ![1, 736, 128]⟩
abbrev S368x128 : Shape := ⟨2, ![368, 128]⟩
abbrev S4096x128 : Shape := ⟨2, ![4096, 128]⟩
abbrev S1x4096x128 : Shape := ⟨3, ![1, 4096, 128]⟩

abbrev nBuf : Space → Nat
  | .hbm => 2
  | .vmem => 2
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .f32⟩
  | .local _ .vmem, ⟨0, _⟩ => ⟨S1x4096x2048, .f32⟩
  | .local _ .vmem, ⟨1, _⟩ => ⟨S4096x1024, .f32⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 178 → Bool
  | ⟨i, _⟩ => dmaSemScopedAt i

abbrev sig : RefSig :=
  (ofTc nBuf bufTy 1 178 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c4_i32_5 : BitVec 32 := 4#32
  let v11 : BitVec 32 := Scalar.muli v10 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_12 : BitVec 32 := 2#32
  let v20 : BitVec 32 := Scalar.muli v17 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_14 v8
  let c1_i32_19 : BitVec 32 := 1#32
  let v29 : BitVec 32 := Scalar.muli v24 c1_i32_19
  let v30 : BitVec 32 := Scalar.addi v28 v29
  v30.toNat
def k0_off1 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_35 : BitVec 32 := 656#32
  let v59 : BitVec 32 := Scalar.muli v32 c656_i32_35
  let c0_i32_55 : BitVec 32 := 0#32
  ![v59.toNat, 0]
def k0_off2 (d0 : Dev nD) (c0_i32_39 : BitVec 32) : Fin 3 → Nat :=
  let c0_i32_46 : BitVec 32 := 0#32
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_35 : BitVec 32 := 656#32
  let v59 : BitVec 32 := Scalar.muli v32 c656_i32_35
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_38 v2
  let c1024_i32 : BitVec 32 := 1024#32
  let v63 : BitVec 32 := Scalar.muli v62 c1024_i32
  let v64 : BitVec 32 := Scalar.addi v63 c0_i32_39
  ![0, v59.toNat, v64.toNat]
def k0_dev4 (d0 : Dev nD) : Nat :=
  let c0_i32_52 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_51 : BitVec 32 := 4#32
  let v71 : BitVec 32 := Scalar.muli v56 c4_i32_51
  let v72 : BitVec 32 := Scalar.addi c0_i32_52 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v73 : BitVec 32 := Scalar.muli v5 c2_i32_53
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v75 : BitVec 32 := Scalar.muli v8 c1_i32_54
  let v76 : BitVec 32 := Scalar.addi v74 v75
  v76.toNat
def k0_off3 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_36 : BitVec 32 := 656#32
  let v60 : BitVec 32 := Scalar.muli v32 c656_i32_36
  let c328_i32_37 : BitVec 32 := 328#32
  let v61 : BitVec 32 := Scalar.addi v60 c328_i32_37
  let c0_i32_65 : BitVec 32 := 0#32
  ![v61.toNat, 0]
def k0_off4 (d0 : Dev nD) (c0_i32_42 : BitVec 32) : Fin 3 → Nat :=
  let c0_i32_56 : BitVec 32 := 0#32
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_36 : BitVec 32 := 656#32
  let v60 : BitVec 32 := Scalar.muli v32 c656_i32_36
  let c328_i32_37 : BitVec 32 := 328#32
  let v61 : BitVec 32 := Scalar.addi v60 c328_i32_37
  let c1_i32_40 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v65 : BitVec 32 := Scalar.subi c1_i32_40 v2
  let c1024_i32_41 : BitVec 32 := 1024#32
  let v66 : BitVec 32 := Scalar.muli v65 c1024_i32_41
  let v67 : BitVec 32 := Scalar.addi v66 c0_i32_42
  ![0, v61.toNat, v67.toNat]
def k0_dev5 (d0 : Dev nD) : Nat :=
  let c0_i32_62 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_61 : BitVec 32 := 4#32
  let v84 : BitVec 32 := Scalar.muli v56 c4_i32_61
  let v85 : BitVec 32 := Scalar.addi c0_i32_62 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v86 : BitVec 32 := Scalar.muli v5 c2_i32_63
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v88 : BitVec 32 := Scalar.muli v8 c1_i32_64
  let v89 : BitVec 32 := Scalar.addi v87 v88
  v89.toNat
def k0_off5 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c0_i32_75 : BitVec 32 := 0#32
  ![v51.toNat, 0]
def k0_off6 (d0 : Dev nD) (c0_i32_45 : BitVec 32) : Fin 3 → Nat :=
  let c0_i32_66 : BitVec 32 := 0#32
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c1_i32_43 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.subi c1_i32_43 v2
  let c1024_i32_44 : BitVec 32 := 1024#32
  let v69 : BitVec 32 := Scalar.muli v68 c1024_i32_44
  let v70 : BitVec 32 := Scalar.addi v69 c0_i32_45
  ![0, v51.toNat, v70.toNat]
def k0_dev6 (d0 : Dev nD) : Nat :=
  let c0_i32_72 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_71 : BitVec 32 := 4#32
  let v97 : BitVec 32 := Scalar.muli v56 c4_i32_71
  let v98 : BitVec 32 := Scalar.addi c0_i32_72 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v99 : BitVec 32 := Scalar.muli v5 c2_i32_73
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v101 : BitVec 32 := Scalar.muli v8 c1_i32_74
  let v102 : BitVec 32 := Scalar.addi v100 v101
  v102.toNat
def k0_off7 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_35 : BitVec 32 := 656#32
  let v59 : BitVec 32 := Scalar.muli v32 c656_i32_35
  let c128_i32_93 : BitVec 32 := 128#32
  ![v59.toNat, 128]
def k0_dev7 (d0 : Dev nD) : Nat :=
  let c0_i32_90 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_89 : BitVec 32 := 4#32
  let v119 : BitVec 32 := Scalar.muli v56 c4_i32_89
  let v120 : BitVec 32 := Scalar.addi c0_i32_90 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v121 : BitVec 32 := Scalar.muli v5 c2_i32_91
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v123 : BitVec 32 := Scalar.muli v8 c1_i32_92
  let v124 : BitVec 32 := Scalar.addi v122 v123
  v124.toNat
def k0_off8 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_36 : BitVec 32 := 656#32
  let v60 : BitVec 32 := Scalar.muli v32 c656_i32_36
  let c328_i32_37 : BitVec 32 := 328#32
  let v61 : BitVec 32 := Scalar.addi v60 c328_i32_37
  let c128_i32_103 : BitVec 32 := 128#32
  ![v61.toNat, 128]
def k0_dev8 (d0 : Dev nD) : Nat :=
  let c0_i32_100 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_99 : BitVec 32 := 4#32
  let v132 : BitVec 32 := Scalar.muli v56 c4_i32_99
  let v133 : BitVec 32 := Scalar.addi c0_i32_100 v132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v134 : BitVec 32 := Scalar.muli v5 c2_i32_101
  let v135 : BitVec 32 := Scalar.addi v133 v134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v136 : BitVec 32 := Scalar.muli v8 c1_i32_102
  let v137 : BitVec 32 := Scalar.addi v135 v136
  v137.toNat
def k0_off9 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c128_i32_113 : BitVec 32 := 128#32
  ![v51.toNat, 128]
def k0_dev9 (d0 : Dev nD) : Nat :=
  let c0_i32_110 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_109 : BitVec 32 := 4#32
  let v145 : BitVec 32 := Scalar.muli v56 c4_i32_109
  let v146 : BitVec 32 := Scalar.addi c0_i32_110 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v147 : BitVec 32 := Scalar.muli v5 c2_i32_111
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v149 : BitVec 32 := Scalar.muli v8 c1_i32_112
  let v150 : BitVec 32 := Scalar.addi v148 v149
  v150.toNat
def k0_off10 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_35 : BitVec 32 := 656#32
  let v59 : BitVec 32 := Scalar.muli v32 c656_i32_35
  let c256_i32_131 : BitVec 32 := 256#32
  ![v59.toNat, 256]
def k0_dev10 (d0 : Dev nD) : Nat :=
  let c0_i32_128 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_127 : BitVec 32 := 4#32
  let v167 : BitVec 32 := Scalar.muli v56 c4_i32_127
  let v168 : BitVec 32 := Scalar.addi c0_i32_128 v167
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v169 : BitVec 32 := Scalar.muli v5 c2_i32_129
  let v170 : BitVec 32 := Scalar.addi v168 v169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v171 : BitVec 32 := Scalar.muli v8 c1_i32_130
  let v172 : BitVec 32 := Scalar.addi v170 v171
  v172.toNat
def k0_off11 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_36 : BitVec 32 := 656#32
  let v60 : BitVec 32 := Scalar.muli v32 c656_i32_36
  let c328_i32_37 : BitVec 32 := 328#32
  let v61 : BitVec 32 := Scalar.addi v60 c328_i32_37
  let c256_i32_141 : BitVec 32 := 256#32
  ![v61.toNat, 256]
def k0_dev11 (d0 : Dev nD) : Nat :=
  let c0_i32_138 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_137 : BitVec 32 := 4#32
  let v180 : BitVec 32 := Scalar.muli v56 c4_i32_137
  let v181 : BitVec 32 := Scalar.addi c0_i32_138 v180
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v182 : BitVec 32 := Scalar.muli v5 c2_i32_139
  let v183 : BitVec 32 := Scalar.addi v181 v182
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v184 : BitVec 32 := Scalar.muli v8 c1_i32_140
  let v185 : BitVec 32 := Scalar.addi v183 v184
  v185.toNat
def k0_off12 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c256_i32_151 : BitVec 32 := 256#32
  ![v51.toNat, 256]
def k0_dev12 (d0 : Dev nD) : Nat :=
  let c0_i32_148 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_147 : BitVec 32 := 4#32
  let v193 : BitVec 32 := Scalar.muli v56 c4_i32_147
  let v194 : BitVec 32 := Scalar.addi c0_i32_148 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_149 : BitVec 32 := 2#32
  let v195 : BitVec 32 := Scalar.muli v5 c2_i32_149
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v197 : BitVec 32 := Scalar.muli v8 c1_i32_150
  let v198 : BitVec 32 := Scalar.addi v196 v197
  v198.toNat
def k0_off13 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_35 : BitVec 32 := 656#32
  let v59 : BitVec 32 := Scalar.muli v32 c656_i32_35
  let c384_i32_169 : BitVec 32 := 384#32
  ![v59.toNat, 384]
def k0_dev13 (d0 : Dev nD) : Nat :=
  let c0_i32_166 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_165 : BitVec 32 := 4#32
  let v215 : BitVec 32 := Scalar.muli v56 c4_i32_165
  let v216 : BitVec 32 := Scalar.addi c0_i32_166 v215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_167 : BitVec 32 := 2#32
  let v217 : BitVec 32 := Scalar.muli v5 c2_i32_167
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_168 : BitVec 32 := 1#32
  let v219 : BitVec 32 := Scalar.muli v8 c1_i32_168
  let v220 : BitVec 32 := Scalar.addi v218 v219
  v220.toNat
def k0_off14 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_36 : BitVec 32 := 656#32
  let v60 : BitVec 32 := Scalar.muli v32 c656_i32_36
  let c328_i32_37 : BitVec 32 := 328#32
  let v61 : BitVec 32 := Scalar.addi v60 c328_i32_37
  let c384_i32_179 : BitVec 32 := 384#32
  ![v61.toNat, 384]
def k0_dev14 (d0 : Dev nD) : Nat :=
  let c0_i32_176 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_175 : BitVec 32 := 4#32
  let v228 : BitVec 32 := Scalar.muli v56 c4_i32_175
  let v229 : BitVec 32 := Scalar.addi c0_i32_176 v228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_177 : BitVec 32 := 2#32
  let v230 : BitVec 32 := Scalar.muli v5 c2_i32_177
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_178 : BitVec 32 := 1#32
  let v232 : BitVec 32 := Scalar.muli v8 c1_i32_178
  let v233 : BitVec 32 := Scalar.addi v231 v232
  v233.toNat
def k0_off15 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c384_i32_189 : BitVec 32 := 384#32
  ![v51.toNat, 384]
def k0_dev15 (d0 : Dev nD) : Nat :=
  let c0_i32_186 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_185 : BitVec 32 := 4#32
  let v241 : BitVec 32 := Scalar.muli v56 c4_i32_185
  let v242 : BitVec 32 := Scalar.addi c0_i32_186 v241
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_187 : BitVec 32 := 2#32
  let v243 : BitVec 32 := Scalar.muli v5 c2_i32_187
  let v244 : BitVec 32 := Scalar.addi v242 v243
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_188 : BitVec 32 := 1#32
  let v245 : BitVec 32 := Scalar.muli v8 c1_i32_188
  let v246 : BitVec 32 := Scalar.addi v244 v245
  v246.toNat
def k0_off16 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_35 : BitVec 32 := 656#32
  let v59 : BitVec 32 := Scalar.muli v32 c656_i32_35
  let c512_i32_207 : BitVec 32 := 512#32
  ![v59.toNat, 512]
def k0_dev16 (d0 : Dev nD) : Nat :=
  let c0_i32_204 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_203 : BitVec 32 := 4#32
  let v263 : BitVec 32 := Scalar.muli v56 c4_i32_203
  let v264 : BitVec 32 := Scalar.addi c0_i32_204 v263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_205 : BitVec 32 := 2#32
  let v265 : BitVec 32 := Scalar.muli v5 c2_i32_205
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_206 : BitVec 32 := 1#32
  let v267 : BitVec 32 := Scalar.muli v8 c1_i32_206
  let v268 : BitVec 32 := Scalar.addi v266 v267
  v268.toNat
def k0_off17 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_36 : BitVec 32 := 656#32
  let v60 : BitVec 32 := Scalar.muli v32 c656_i32_36
  let c328_i32_37 : BitVec 32 := 328#32
  let v61 : BitVec 32 := Scalar.addi v60 c328_i32_37
  let c512_i32_217 : BitVec 32 := 512#32
  ![v61.toNat, 512]
def k0_dev17 (d0 : Dev nD) : Nat :=
  let c0_i32_214 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_213 : BitVec 32 := 4#32
  let v276 : BitVec 32 := Scalar.muli v56 c4_i32_213
  let v277 : BitVec 32 := Scalar.addi c0_i32_214 v276
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v278 : BitVec 32 := Scalar.muli v5 c2_i32_215
  let v279 : BitVec 32 := Scalar.addi v277 v278
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_216 : BitVec 32 := 1#32
  let v280 : BitVec 32 := Scalar.muli v8 c1_i32_216
  let v281 : BitVec 32 := Scalar.addi v279 v280
  v281.toNat
def k0_off18 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c512_i32_227 : BitVec 32 := 512#32
  ![v51.toNat, 512]
def k0_dev18 (d0 : Dev nD) : Nat :=
  let c0_i32_224 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_223 : BitVec 32 := 4#32
  let v289 : BitVec 32 := Scalar.muli v56 c4_i32_223
  let v290 : BitVec 32 := Scalar.addi c0_i32_224 v289
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_225 : BitVec 32 := 2#32
  let v291 : BitVec 32 := Scalar.muli v5 c2_i32_225
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_226 : BitVec 32 := 1#32
  let v293 : BitVec 32 := Scalar.muli v8 c1_i32_226
  let v294 : BitVec 32 := Scalar.addi v292 v293
  v294.toNat
def k0_off19 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_35 : BitVec 32 := 656#32
  let v59 : BitVec 32 := Scalar.muli v32 c656_i32_35
  let c640_i32_244 : BitVec 32 := 640#32
  ![v59.toNat, 640]
def k0_dev19 (d0 : Dev nD) : Nat :=
  let c0_i32_241 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_240 : BitVec 32 := 4#32
  let v311 : BitVec 32 := Scalar.muli v56 c4_i32_240
  let v312 : BitVec 32 := Scalar.addi c0_i32_241 v311
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_242 : BitVec 32 := 2#32
  let v313 : BitVec 32 := Scalar.muli v5 c2_i32_242
  let v314 : BitVec 32 := Scalar.addi v312 v313
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_243 : BitVec 32 := 1#32
  let v315 : BitVec 32 := Scalar.muli v8 c1_i32_243
  let v316 : BitVec 32 := Scalar.addi v314 v315
  v316.toNat
def k0_off20 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_36 : BitVec 32 := 656#32
  let v60 : BitVec 32 := Scalar.muli v32 c656_i32_36
  let c328_i32_37 : BitVec 32 := 328#32
  let v61 : BitVec 32 := Scalar.addi v60 c328_i32_37
  let c640_i32_254 : BitVec 32 := 640#32
  ![v61.toNat, 640]
def k0_dev20 (d0 : Dev nD) : Nat :=
  let c0_i32_251 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_250 : BitVec 32 := 4#32
  let v324 : BitVec 32 := Scalar.muli v56 c4_i32_250
  let v325 : BitVec 32 := Scalar.addi c0_i32_251 v324
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v326 : BitVec 32 := Scalar.muli v5 c2_i32_252
  let v327 : BitVec 32 := Scalar.addi v325 v326
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_253 : BitVec 32 := 1#32
  let v328 : BitVec 32 := Scalar.muli v8 c1_i32_253
  let v329 : BitVec 32 := Scalar.addi v327 v328
  v329.toNat
def k0_off21 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c640_i32_264 : BitVec 32 := 640#32
  ![v51.toNat, 640]
def k0_dev21 (d0 : Dev nD) : Nat :=
  let c0_i32_261 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_260 : BitVec 32 := 4#32
  let v337 : BitVec 32 := Scalar.muli v56 c4_i32_260
  let v338 : BitVec 32 := Scalar.addi c0_i32_261 v337
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_262 : BitVec 32 := 2#32
  let v339 : BitVec 32 := Scalar.muli v5 c2_i32_262
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_263 : BitVec 32 := 1#32
  let v341 : BitVec 32 := Scalar.muli v8 c1_i32_263
  let v342 : BitVec 32 := Scalar.addi v340 v341
  v342.toNat
def k0_off22 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_35 : BitVec 32 := 656#32
  let v59 : BitVec 32 := Scalar.muli v32 c656_i32_35
  let c768_i32_281 : BitVec 32 := 768#32
  ![v59.toNat, 768]
def k0_dev22 (d0 : Dev nD) : Nat :=
  let c0_i32_278 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_277 : BitVec 32 := 4#32
  let v359 : BitVec 32 := Scalar.muli v56 c4_i32_277
  let v360 : BitVec 32 := Scalar.addi c0_i32_278 v359
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_279 : BitVec 32 := 2#32
  let v361 : BitVec 32 := Scalar.muli v5 c2_i32_279
  let v362 : BitVec 32 := Scalar.addi v360 v361
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_280 : BitVec 32 := 1#32
  let v363 : BitVec 32 := Scalar.muli v8 c1_i32_280
  let v364 : BitVec 32 := Scalar.addi v362 v363
  v364.toNat
def k0_off23 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_36 : BitVec 32 := 656#32
  let v60 : BitVec 32 := Scalar.muli v32 c656_i32_36
  let c328_i32_37 : BitVec 32 := 328#32
  let v61 : BitVec 32 := Scalar.addi v60 c328_i32_37
  let c768_i32_291 : BitVec 32 := 768#32
  ![v61.toNat, 768]
def k0_dev23 (d0 : Dev nD) : Nat :=
  let c0_i32_288 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_287 : BitVec 32 := 4#32
  let v372 : BitVec 32 := Scalar.muli v56 c4_i32_287
  let v373 : BitVec 32 := Scalar.addi c0_i32_288 v372
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_289 : BitVec 32 := 2#32
  let v374 : BitVec 32 := Scalar.muli v5 c2_i32_289
  let v375 : BitVec 32 := Scalar.addi v373 v374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_290 : BitVec 32 := 1#32
  let v376 : BitVec 32 := Scalar.muli v8 c1_i32_290
  let v377 : BitVec 32 := Scalar.addi v375 v376
  v377.toNat
def k0_off24 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c768_i32_301 : BitVec 32 := 768#32
  ![v51.toNat, 768]
def k0_dev24 (d0 : Dev nD) : Nat :=
  let c0_i32_298 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_297 : BitVec 32 := 4#32
  let v385 : BitVec 32 := Scalar.muli v56 c4_i32_297
  let v386 : BitVec 32 := Scalar.addi c0_i32_298 v385
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v387 : BitVec 32 := Scalar.muli v5 c2_i32_299
  let v388 : BitVec 32 := Scalar.addi v386 v387
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_300 : BitVec 32 := 1#32
  let v389 : BitVec 32 := Scalar.muli v8 c1_i32_300
  let v390 : BitVec 32 := Scalar.addi v388 v389
  v390.toNat
def k0_off25 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_35 : BitVec 32 := 656#32
  let v59 : BitVec 32 := Scalar.muli v32 c656_i32_35
  let c896_i32_318 : BitVec 32 := 896#32
  ![v59.toNat, 896]
def k0_dev25 (d0 : Dev nD) : Nat :=
  let c0_i32_315 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_314 : BitVec 32 := 4#32
  let v407 : BitVec 32 := Scalar.muli v56 c4_i32_314
  let v408 : BitVec 32 := Scalar.addi c0_i32_315 v407
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_316 : BitVec 32 := 2#32
  let v409 : BitVec 32 := Scalar.muli v5 c2_i32_316
  let v410 : BitVec 32 := Scalar.addi v408 v409
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_317 : BitVec 32 := 1#32
  let v411 : BitVec 32 := Scalar.muli v8 c1_i32_317
  let v412 : BitVec 32 := Scalar.addi v410 v411
  v412.toNat
def k0_off26 (d0 : Dev nD) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c656_i32_36 : BitVec 32 := 656#32
  let v60 : BitVec 32 := Scalar.muli v32 c656_i32_36
  let c328_i32_37 : BitVec 32 := 328#32
  let v61 : BitVec 32 := Scalar.addi v60 c328_i32_37
  let c896_i32_328 : BitVec 32 := 896#32
  ![v61.toNat, 896]
def k0_dev26 (d0 : Dev nD) : Nat :=
  let c0_i32_325 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_324 : BitVec 32 := 4#32
  let v420 : BitVec 32 := Scalar.muli v56 c4_i32_324
  let v421 : BitVec 32 := Scalar.addi c0_i32_325 v420
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_326 : BitVec 32 := 2#32
  let v422 : BitVec 32 := Scalar.muli v5 c2_i32_326
  let v423 : BitVec 32 := Scalar.addi v421 v422
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_327 : BitVec 32 := 1#32
  let v424 : BitVec 32 := Scalar.muli v8 c1_i32_327
  let v425 : BitVec 32 := Scalar.addi v423 v424
  v425.toNat
def k0_off27 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c896_i32_338 : BitVec 32 := 896#32
  ![v51.toNat, 896]
def k0_dev27 (d0 : Dev nD) : Nat :=
  let c0_i32_335 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_334 : BitVec 32 := 4#32
  let v433 : BitVec 32 := Scalar.muli v56 c4_i32_334
  let v434 : BitVec 32 := Scalar.addi c0_i32_335 v433
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_336 : BitVec 32 := 2#32
  let v435 : BitVec 32 := Scalar.muli v5 c2_i32_336
  let v436 : BitVec 32 := Scalar.addi v434 v435
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_337 : BitVec 32 := 1#32
  let v437 : BitVec 32 := Scalar.muli v8 c1_i32_337
  let v438 : BitVec 32 := Scalar.addi v436 v437
  v438.toNat
def k0_dev28 (d0 : Dev nD) : Nat :=
  let c0_i32_361 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_360 : BitVec 32 := 4#32
  let v462 : BitVec 32 := Scalar.muli v2 c4_i32_360
  let v463 : BitVec 32 := Scalar.addi c0_i32_361 v462
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_362 : BitVec 32 := 2#32
  let v464 : BitVec 32 := Scalar.muli v57 c2_i32_362
  let v465 : BitVec 32 := Scalar.addi v463 v464
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_363 : BitVec 32 := 1#32
  let v466 : BitVec 32 := Scalar.muli v8 c1_i32_363
  let v467 : BitVec 32 := Scalar.addi v465 v466
  v467.toNat
def k0_dev29 (d0 : Dev nD) : Nat :=
  let c0_i32_371 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_370 : BitVec 32 := 4#32
  let v474 : BitVec 32 := Scalar.muli v2 c4_i32_370
  let v475 : BitVec 32 := Scalar.addi c0_i32_371 v474
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_372 : BitVec 32 := 2#32
  let v476 : BitVec 32 := Scalar.muli v5 c2_i32_372
  let v477 : BitVec 32 := Scalar.addi v475 v476
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_373 : BitVec 32 := 1#32
  let v478 : BitVec 32 := Scalar.muli v58 c1_i32_373
  let v479 : BitVec 32 := Scalar.addi v477 v478
  v479.toNat
def k0_dev30 (d0 : Dev nD) : Nat :=
  let c0_i32_398 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_397 : BitVec 32 := 4#32
  let v502 : BitVec 32 := Scalar.muli v2 c4_i32_397
  let v503 : BitVec 32 := Scalar.addi c0_i32_398 v502
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_399 : BitVec 32 := 2#32
  let v504 : BitVec 32 := Scalar.muli v57 c2_i32_399
  let v505 : BitVec 32 := Scalar.addi v503 v504
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_400 : BitVec 32 := 1#32
  let v506 : BitVec 32 := Scalar.muli v8 c1_i32_400
  let v507 : BitVec 32 := Scalar.addi v505 v506
  v507.toNat
def k0_dev31 (d0 : Dev nD) : Nat :=
  let c0_i32_408 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_407 : BitVec 32 := 4#32
  let v514 : BitVec 32 := Scalar.muli v2 c4_i32_407
  let v515 : BitVec 32 := Scalar.addi c0_i32_408 v514
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_409 : BitVec 32 := 2#32
  let v516 : BitVec 32 := Scalar.muli v5 c2_i32_409
  let v517 : BitVec 32 := Scalar.addi v515 v516
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_410 : BitVec 32 := 1#32
  let v518 : BitVec 32 := Scalar.muli v58 c1_i32_410
  let v519 : BitVec 32 := Scalar.addi v517 v518
  v519.toNat
def k0_off28 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c0_i32_438 : BitVec 32 := 0#32
  ![v51.toNat, 0]
def k0_dev32 (d0 : Dev nD) : Nat :=
  let c0_i32_435 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_434 : BitVec 32 := 4#32
  let v542 : BitVec 32 := Scalar.muli v2 c4_i32_434
  let v543 : BitVec 32 := Scalar.addi c0_i32_435 v542
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_436 : BitVec 32 := 2#32
  let v544 : BitVec 32 := Scalar.muli v57 c2_i32_436
  let v545 : BitVec 32 := Scalar.addi v543 v544
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_437 : BitVec 32 := 1#32
  let v546 : BitVec 32 := Scalar.muli v8 c1_i32_437
  let v547 : BitVec 32 := Scalar.addi v545 v546
  v547.toNat
def k0_off29 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c368_i32 : BitVec 32 := 368#32
  let v52 : BitVec 32 := Scalar.addi v51 c368_i32
  let c0_i32_447 : BitVec 32 := 0#32
  ![v52.toNat, 0]
def k0_dev33 (d0 : Dev nD) : Nat :=
  let c0_i32_444 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_443 : BitVec 32 := 4#32
  let v554 : BitVec 32 := Scalar.muli v2 c4_i32_443
  let v555 : BitVec 32 := Scalar.addi c0_i32_444 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_445 : BitVec 32 := 2#32
  let v556 : BitVec 32 := Scalar.muli v5 c2_i32_445
  let v557 : BitVec 32 := Scalar.addi v555 v556
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_446 : BitVec 32 := 1#32
  let v558 : BitVec 32 := Scalar.muli v58 c1_i32_446
  let v559 : BitVec 32 := Scalar.addi v557 v558
  v559.toNat
def k0_dev34 (d0 : Dev nD) : Nat :=
  let c0_i32_471 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_470 : BitVec 32 := 4#32
  let v582 : BitVec 32 := Scalar.muli v2 c4_i32_470
  let v583 : BitVec 32 := Scalar.addi c0_i32_471 v582
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_472 : BitVec 32 := 2#32
  let v584 : BitVec 32 := Scalar.muli v57 c2_i32_472
  let v585 : BitVec 32 := Scalar.addi v583 v584
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_473 : BitVec 32 := 1#32
  let v586 : BitVec 32 := Scalar.muli v8 c1_i32_473
  let v587 : BitVec 32 := Scalar.addi v585 v586
  v587.toNat
def k0_dev35 (d0 : Dev nD) : Nat :=
  let c0_i32_481 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_480 : BitVec 32 := 4#32
  let v594 : BitVec 32 := Scalar.muli v2 c4_i32_480
  let v595 : BitVec 32 := Scalar.addi c0_i32_481 v594
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_482 : BitVec 32 := 2#32
  let v596 : BitVec 32 := Scalar.muli v5 c2_i32_482
  let v597 : BitVec 32 := Scalar.addi v595 v596
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_483 : BitVec 32 := 1#32
  let v598 : BitVec 32 := Scalar.muli v58 c1_i32_483
  let v599 : BitVec 32 := Scalar.addi v597 v598
  v599.toNat
def k0_dev36 (d0 : Dev nD) : Nat :=
  let c0_i32_508 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_507 : BitVec 32 := 4#32
  let v622 : BitVec 32 := Scalar.muli v2 c4_i32_507
  let v623 : BitVec 32 := Scalar.addi c0_i32_508 v622
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_509 : BitVec 32 := 2#32
  let v624 : BitVec 32 := Scalar.muli v57 c2_i32_509
  let v625 : BitVec 32 := Scalar.addi v623 v624
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_510 : BitVec 32 := 1#32
  let v626 : BitVec 32 := Scalar.muli v8 c1_i32_510
  let v627 : BitVec 32 := Scalar.addi v625 v626
  v627.toNat
def k0_dev37 (d0 : Dev nD) : Nat :=
  let c0_i32_518 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_517 : BitVec 32 := 4#32
  let v634 : BitVec 32 := Scalar.muli v2 c4_i32_517
  let v635 : BitVec 32 := Scalar.addi c0_i32_518 v634
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_519 : BitVec 32 := 2#32
  let v636 : BitVec 32 := Scalar.muli v5 c2_i32_519
  let v637 : BitVec 32 := Scalar.addi v635 v636
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_520 : BitVec 32 := 1#32
  let v638 : BitVec 32 := Scalar.muli v58 c1_i32_520
  let v639 : BitVec 32 := Scalar.addi v637 v638
  v639.toNat
def k0_off30 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c128_i32_548 : BitVec 32 := 128#32
  ![v51.toNat, 128]
def k0_dev38 (d0 : Dev nD) : Nat :=
  let c0_i32_545 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_544 : BitVec 32 := 4#32
  let v662 : BitVec 32 := Scalar.muli v2 c4_i32_544
  let v663 : BitVec 32 := Scalar.addi c0_i32_545 v662
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_546 : BitVec 32 := 2#32
  let v664 : BitVec 32 := Scalar.muli v57 c2_i32_546
  let v665 : BitVec 32 := Scalar.addi v663 v664
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_547 : BitVec 32 := 1#32
  let v666 : BitVec 32 := Scalar.muli v8 c1_i32_547
  let v667 : BitVec 32 := Scalar.addi v665 v666
  v667.toNat
def k0_off31 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c368_i32 : BitVec 32 := 368#32
  let v52 : BitVec 32 := Scalar.addi v51 c368_i32
  let c128_i32_558 : BitVec 32 := 128#32
  ![v52.toNat, 128]
def k0_dev39 (d0 : Dev nD) : Nat :=
  let c0_i32_555 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_554 : BitVec 32 := 4#32
  let v674 : BitVec 32 := Scalar.muli v2 c4_i32_554
  let v675 : BitVec 32 := Scalar.addi c0_i32_555 v674
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_556 : BitVec 32 := 2#32
  let v676 : BitVec 32 := Scalar.muli v5 c2_i32_556
  let v677 : BitVec 32 := Scalar.addi v675 v676
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_557 : BitVec 32 := 1#32
  let v678 : BitVec 32 := Scalar.muli v58 c1_i32_557
  let v679 : BitVec 32 := Scalar.addi v677 v678
  v679.toNat
def k0_off32 (d0 : Dev nD) : Fin 2 → Nat :=
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_21 v5
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c656_i32 : BitVec 32 := 656#32
  let v53 : BitVec 32 := Scalar.muli v35 c656_i32
  let c0_i32_584 : BitVec 32 := 0#32
  ![v53.toNat, 0]
def k0_dev40 (d0 : Dev nD) : Nat :=
  let c0_i32_581 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_580 : BitVec 32 := 4#32
  let v700 : BitVec 32 := Scalar.muli v2 c4_i32_580
  let v701 : BitVec 32 := Scalar.addi c0_i32_581 v700
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_582 : BitVec 32 := 2#32
  let v702 : BitVec 32 := Scalar.muli v5 c2_i32_582
  let v703 : BitVec 32 := Scalar.addi v701 v702
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_583 : BitVec 32 := 1#32
  let v704 : BitVec 32 := Scalar.muli v58 c1_i32_583
  let v705 : BitVec 32 := Scalar.addi v703 v704
  v705.toNat
def k0_off33 (d0 : Dev nD) : Fin 2 → Nat :=
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.muli c2_i32_23 v5
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c656_i32_31 : BitVec 32 := 656#32
  let v54 : BitVec 32 := Scalar.muli v38 c656_i32_31
  let c328_i32 : BitVec 32 := 328#32
  let v55 : BitVec 32 := Scalar.addi v54 c328_i32
  let c0_i32_610 : BitVec 32 := 0#32
  ![v55.toNat, 0]
def k0_dev41 (d0 : Dev nD) : Nat :=
  let c0_i32_607 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_606 : BitVec 32 := 4#32
  let v726 : BitVec 32 := Scalar.muli v2 c4_i32_606
  let v727 : BitVec 32 := Scalar.addi c0_i32_607 v726
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_608 : BitVec 32 := 2#32
  let v728 : BitVec 32 := Scalar.muli v57 c2_i32_608
  let v729 : BitVec 32 := Scalar.addi v727 v728
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_609 : BitVec 32 := 1#32
  let v730 : BitVec 32 := Scalar.muli v8 c1_i32_609
  let v731 : BitVec 32 := Scalar.addi v729 v730
  v731.toNat
def k0_dev42 (d0 : Dev nD) : Nat :=
  let c0_i32_634 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_633 : BitVec 32 := 4#32
  let v754 : BitVec 32 := Scalar.muli v2 c4_i32_633
  let v755 : BitVec 32 := Scalar.addi c0_i32_634 v754
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_635 : BitVec 32 := 2#32
  let v756 : BitVec 32 := Scalar.muli v57 c2_i32_635
  let v757 : BitVec 32 := Scalar.addi v755 v756
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_636 : BitVec 32 := 1#32
  let v758 : BitVec 32 := Scalar.muli v8 c1_i32_636
  let v759 : BitVec 32 := Scalar.addi v757 v758
  v759.toNat
def k0_dev43 (d0 : Dev nD) : Nat :=
  let c0_i32_644 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_643 : BitVec 32 := 4#32
  let v766 : BitVec 32 := Scalar.muli v2 c4_i32_643
  let v767 : BitVec 32 := Scalar.addi c0_i32_644 v766
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_645 : BitVec 32 := 2#32
  let v768 : BitVec 32 := Scalar.muli v5 c2_i32_645
  let v769 : BitVec 32 := Scalar.addi v767 v768
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_646 : BitVec 32 := 1#32
  let v770 : BitVec 32 := Scalar.muli v58 c1_i32_646
  let v771 : BitVec 32 := Scalar.addi v769 v770
  v771.toNat
def k0_dev44 (d0 : Dev nD) : Nat :=
  let c0_i32_671 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_670 : BitVec 32 := 4#32
  let v794 : BitVec 32 := Scalar.muli v2 c4_i32_670
  let v795 : BitVec 32 := Scalar.addi c0_i32_671 v794
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_672 : BitVec 32 := 2#32
  let v796 : BitVec 32 := Scalar.muli v57 c2_i32_672
  let v797 : BitVec 32 := Scalar.addi v795 v796
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_673 : BitVec 32 := 1#32
  let v798 : BitVec 32 := Scalar.muli v8 c1_i32_673
  let v799 : BitVec 32 := Scalar.addi v797 v798
  v799.toNat
def k0_dev45 (d0 : Dev nD) : Nat :=
  let c0_i32_681 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_680 : BitVec 32 := 4#32
  let v806 : BitVec 32 := Scalar.muli v2 c4_i32_680
  let v807 : BitVec 32 := Scalar.addi c0_i32_681 v806
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_682 : BitVec 32 := 2#32
  let v808 : BitVec 32 := Scalar.muli v5 c2_i32_682
  let v809 : BitVec 32 := Scalar.addi v807 v808
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_683 : BitVec 32 := 1#32
  let v810 : BitVec 32 := Scalar.muli v58 c1_i32_683
  let v811 : BitVec 32 := Scalar.addi v809 v810
  v811.toNat
def k0_off34 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c256_i32_711 : BitVec 32 := 256#32
  ![v51.toNat, 256]
def k0_dev46 (d0 : Dev nD) : Nat :=
  let c0_i32_708 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_707 : BitVec 32 := 4#32
  let v834 : BitVec 32 := Scalar.muli v2 c4_i32_707
  let v835 : BitVec 32 := Scalar.addi c0_i32_708 v834
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_709 : BitVec 32 := 2#32
  let v836 : BitVec 32 := Scalar.muli v57 c2_i32_709
  let v837 : BitVec 32 := Scalar.addi v835 v836
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_710 : BitVec 32 := 1#32
  let v838 : BitVec 32 := Scalar.muli v8 c1_i32_710
  let v839 : BitVec 32 := Scalar.addi v837 v838
  v839.toNat
def k0_off35 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c368_i32 : BitVec 32 := 368#32
  let v52 : BitVec 32 := Scalar.addi v51 c368_i32
  let c256_i32_721 : BitVec 32 := 256#32
  ![v52.toNat, 256]
def k0_dev47 (d0 : Dev nD) : Nat :=
  let c0_i32_718 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_717 : BitVec 32 := 4#32
  let v846 : BitVec 32 := Scalar.muli v2 c4_i32_717
  let v847 : BitVec 32 := Scalar.addi c0_i32_718 v846
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_719 : BitVec 32 := 2#32
  let v848 : BitVec 32 := Scalar.muli v5 c2_i32_719
  let v849 : BitVec 32 := Scalar.addi v847 v848
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_720 : BitVec 32 := 1#32
  let v850 : BitVec 32 := Scalar.muli v58 c1_i32_720
  let v851 : BitVec 32 := Scalar.addi v849 v850
  v851.toNat
def k0_off36 (d0 : Dev nD) : Fin 2 → Nat :=
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_21 v5
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c656_i32 : BitVec 32 := 656#32
  let v53 : BitVec 32 := Scalar.muli v35 c656_i32
  let c128_i32_748 : BitVec 32 := 128#32
  ![v53.toNat, 128]
def k0_dev48 (d0 : Dev nD) : Nat :=
  let c0_i32_745 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_744 : BitVec 32 := 4#32
  let v872 : BitVec 32 := Scalar.muli v2 c4_i32_744
  let v873 : BitVec 32 := Scalar.addi c0_i32_745 v872
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_746 : BitVec 32 := 2#32
  let v874 : BitVec 32 := Scalar.muli v5 c2_i32_746
  let v875 : BitVec 32 := Scalar.addi v873 v874
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_747 : BitVec 32 := 1#32
  let v876 : BitVec 32 := Scalar.muli v58 c1_i32_747
  let v877 : BitVec 32 := Scalar.addi v875 v876
  v877.toNat
def k0_off37 (d0 : Dev nD) : Fin 2 → Nat :=
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.muli c2_i32_23 v5
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c656_i32_31 : BitVec 32 := 656#32
  let v54 : BitVec 32 := Scalar.muli v38 c656_i32_31
  let c328_i32 : BitVec 32 := 328#32
  let v55 : BitVec 32 := Scalar.addi v54 c328_i32
  let c128_i32_775 : BitVec 32 := 128#32
  ![v55.toNat, 128]
def k0_dev49 (d0 : Dev nD) : Nat :=
  let c0_i32_772 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_771 : BitVec 32 := 4#32
  let v898 : BitVec 32 := Scalar.muli v2 c4_i32_771
  let v899 : BitVec 32 := Scalar.addi c0_i32_772 v898
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_773 : BitVec 32 := 2#32
  let v900 : BitVec 32 := Scalar.muli v57 c2_i32_773
  let v901 : BitVec 32 := Scalar.addi v899 v900
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_774 : BitVec 32 := 1#32
  let v902 : BitVec 32 := Scalar.muli v8 c1_i32_774
  let v903 : BitVec 32 := Scalar.addi v901 v902
  v903.toNat
def k0_dev50 (d0 : Dev nD) : Nat :=
  let c0_i32_799 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_798 : BitVec 32 := 4#32
  let v926 : BitVec 32 := Scalar.muli v2 c4_i32_798
  let v927 : BitVec 32 := Scalar.addi c0_i32_799 v926
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_800 : BitVec 32 := 2#32
  let v928 : BitVec 32 := Scalar.muli v57 c2_i32_800
  let v929 : BitVec 32 := Scalar.addi v927 v928
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_801 : BitVec 32 := 1#32
  let v930 : BitVec 32 := Scalar.muli v8 c1_i32_801
  let v931 : BitVec 32 := Scalar.addi v929 v930
  v931.toNat
def k0_dev51 (d0 : Dev nD) : Nat :=
  let c0_i32_809 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_808 : BitVec 32 := 4#32
  let v938 : BitVec 32 := Scalar.muli v2 c4_i32_808
  let v939 : BitVec 32 := Scalar.addi c0_i32_809 v938
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_810 : BitVec 32 := 2#32
  let v940 : BitVec 32 := Scalar.muli v5 c2_i32_810
  let v941 : BitVec 32 := Scalar.addi v939 v940
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_811 : BitVec 32 := 1#32
  let v942 : BitVec 32 := Scalar.muli v58 c1_i32_811
  let v943 : BitVec 32 := Scalar.addi v941 v942
  v943.toNat
def k0_dev52 (d0 : Dev nD) : Nat :=
  let c0_i32_836 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_835 : BitVec 32 := 4#32
  let v966 : BitVec 32 := Scalar.muli v2 c4_i32_835
  let v967 : BitVec 32 := Scalar.addi c0_i32_836 v966
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_837 : BitVec 32 := 2#32
  let v968 : BitVec 32 := Scalar.muli v57 c2_i32_837
  let v969 : BitVec 32 := Scalar.addi v967 v968
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_838 : BitVec 32 := 1#32
  let v970 : BitVec 32 := Scalar.muli v8 c1_i32_838
  let v971 : BitVec 32 := Scalar.addi v969 v970
  v971.toNat
def k0_dev53 (d0 : Dev nD) : Nat :=
  let c0_i32_846 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_845 : BitVec 32 := 4#32
  let v978 : BitVec 32 := Scalar.muli v2 c4_i32_845
  let v979 : BitVec 32 := Scalar.addi c0_i32_846 v978
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_847 : BitVec 32 := 2#32
  let v980 : BitVec 32 := Scalar.muli v5 c2_i32_847
  let v981 : BitVec 32 := Scalar.addi v979 v980
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_848 : BitVec 32 := 1#32
  let v982 : BitVec 32 := Scalar.muli v58 c1_i32_848
  let v983 : BitVec 32 := Scalar.addi v981 v982
  v983.toNat
def k0_off38 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c384_i32_876 : BitVec 32 := 384#32
  ![v51.toNat, 384]
def k0_dev54 (d0 : Dev nD) : Nat :=
  let c0_i32_873 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_872 : BitVec 32 := 4#32
  let v1006 : BitVec 32 := Scalar.muli v2 c4_i32_872
  let v1007 : BitVec 32 := Scalar.addi c0_i32_873 v1006
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_874 : BitVec 32 := 2#32
  let v1008 : BitVec 32 := Scalar.muli v57 c2_i32_874
  let v1009 : BitVec 32 := Scalar.addi v1007 v1008
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_875 : BitVec 32 := 1#32
  let v1010 : BitVec 32 := Scalar.muli v8 c1_i32_875
  let v1011 : BitVec 32 := Scalar.addi v1009 v1010
  v1011.toNat
def k0_off39 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c368_i32 : BitVec 32 := 368#32
  let v52 : BitVec 32 := Scalar.addi v51 c368_i32
  let c384_i32_886 : BitVec 32 := 384#32
  ![v52.toNat, 384]
def k0_dev55 (d0 : Dev nD) : Nat :=
  let c0_i32_883 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_882 : BitVec 32 := 4#32
  let v1018 : BitVec 32 := Scalar.muli v2 c4_i32_882
  let v1019 : BitVec 32 := Scalar.addi c0_i32_883 v1018
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_884 : BitVec 32 := 2#32
  let v1020 : BitVec 32 := Scalar.muli v5 c2_i32_884
  let v1021 : BitVec 32 := Scalar.addi v1019 v1020
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_885 : BitVec 32 := 1#32
  let v1022 : BitVec 32 := Scalar.muli v58 c1_i32_885
  let v1023 : BitVec 32 := Scalar.addi v1021 v1022
  v1023.toNat
def k0_off40 (d0 : Dev nD) : Fin 2 → Nat :=
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_21 v5
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c656_i32 : BitVec 32 := 656#32
  let v53 : BitVec 32 := Scalar.muli v35 c656_i32
  let c256_i32_913 : BitVec 32 := 256#32
  ![v53.toNat, 256]
def k0_dev56 (d0 : Dev nD) : Nat :=
  let c0_i32_910 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_909 : BitVec 32 := 4#32
  let v1044 : BitVec 32 := Scalar.muli v2 c4_i32_909
  let v1045 : BitVec 32 := Scalar.addi c0_i32_910 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_911 : BitVec 32 := 2#32
  let v1046 : BitVec 32 := Scalar.muli v5 c2_i32_911
  let v1047 : BitVec 32 := Scalar.addi v1045 v1046
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_912 : BitVec 32 := 1#32
  let v1048 : BitVec 32 := Scalar.muli v58 c1_i32_912
  let v1049 : BitVec 32 := Scalar.addi v1047 v1048
  v1049.toNat
def k0_off41 (d0 : Dev nD) : Fin 2 → Nat :=
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.muli c2_i32_23 v5
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c656_i32_31 : BitVec 32 := 656#32
  let v54 : BitVec 32 := Scalar.muli v38 c656_i32_31
  let c328_i32 : BitVec 32 := 328#32
  let v55 : BitVec 32 := Scalar.addi v54 c328_i32
  let c256_i32_940 : BitVec 32 := 256#32
  ![v55.toNat, 256]
def k0_dev57 (d0 : Dev nD) : Nat :=
  let c0_i32_937 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_936 : BitVec 32 := 4#32
  let v1070 : BitVec 32 := Scalar.muli v2 c4_i32_936
  let v1071 : BitVec 32 := Scalar.addi c0_i32_937 v1070
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_938 : BitVec 32 := 2#32
  let v1072 : BitVec 32 := Scalar.muli v57 c2_i32_938
  let v1073 : BitVec 32 := Scalar.addi v1071 v1072
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_939 : BitVec 32 := 1#32
  let v1074 : BitVec 32 := Scalar.muli v8 c1_i32_939
  let v1075 : BitVec 32 := Scalar.addi v1073 v1074
  v1075.toNat
def k0_dev58 (d0 : Dev nD) : Nat :=
  let c0_i32_964 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_963 : BitVec 32 := 4#32
  let v1098 : BitVec 32 := Scalar.muli v2 c4_i32_963
  let v1099 : BitVec 32 := Scalar.addi c0_i32_964 v1098
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_965 : BitVec 32 := 2#32
  let v1100 : BitVec 32 := Scalar.muli v57 c2_i32_965
  let v1101 : BitVec 32 := Scalar.addi v1099 v1100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_966 : BitVec 32 := 1#32
  let v1102 : BitVec 32 := Scalar.muli v8 c1_i32_966
  let v1103 : BitVec 32 := Scalar.addi v1101 v1102
  v1103.toNat
def k0_dev59 (d0 : Dev nD) : Nat :=
  let c0_i32_974 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_973 : BitVec 32 := 4#32
  let v1110 : BitVec 32 := Scalar.muli v2 c4_i32_973
  let v1111 : BitVec 32 := Scalar.addi c0_i32_974 v1110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_975 : BitVec 32 := 2#32
  let v1112 : BitVec 32 := Scalar.muli v5 c2_i32_975
  let v1113 : BitVec 32 := Scalar.addi v1111 v1112
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_976 : BitVec 32 := 1#32
  let v1114 : BitVec 32 := Scalar.muli v58 c1_i32_976
  let v1115 : BitVec 32 := Scalar.addi v1113 v1114
  v1115.toNat
def k0_dev60 (d0 : Dev nD) : Nat :=
  let c0_i32_1001 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1000 : BitVec 32 := 4#32
  let v1138 : BitVec 32 := Scalar.muli v2 c4_i32_1000
  let v1139 : BitVec 32 := Scalar.addi c0_i32_1001 v1138
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1002 : BitVec 32 := 2#32
  let v1140 : BitVec 32 := Scalar.muli v57 c2_i32_1002
  let v1141 : BitVec 32 := Scalar.addi v1139 v1140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1003 : BitVec 32 := 1#32
  let v1142 : BitVec 32 := Scalar.muli v8 c1_i32_1003
  let v1143 : BitVec 32 := Scalar.addi v1141 v1142
  v1143.toNat
def k0_dev61 (d0 : Dev nD) : Nat :=
  let c0_i32_1011 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1010 : BitVec 32 := 4#32
  let v1150 : BitVec 32 := Scalar.muli v2 c4_i32_1010
  let v1151 : BitVec 32 := Scalar.addi c0_i32_1011 v1150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1012 : BitVec 32 := 2#32
  let v1152 : BitVec 32 := Scalar.muli v5 c2_i32_1012
  let v1153 : BitVec 32 := Scalar.addi v1151 v1152
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1013 : BitVec 32 := 1#32
  let v1154 : BitVec 32 := Scalar.muli v58 c1_i32_1013
  let v1155 : BitVec 32 := Scalar.addi v1153 v1154
  v1155.toNat
def k0_off42 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c512_i32_1041 : BitVec 32 := 512#32
  ![v51.toNat, 512]
def k0_dev62 (d0 : Dev nD) : Nat :=
  let c0_i32_1038 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1037 : BitVec 32 := 4#32
  let v1178 : BitVec 32 := Scalar.muli v2 c4_i32_1037
  let v1179 : BitVec 32 := Scalar.addi c0_i32_1038 v1178
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1039 : BitVec 32 := 2#32
  let v1180 : BitVec 32 := Scalar.muli v57 c2_i32_1039
  let v1181 : BitVec 32 := Scalar.addi v1179 v1180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1040 : BitVec 32 := 1#32
  let v1182 : BitVec 32 := Scalar.muli v8 c1_i32_1040
  let v1183 : BitVec 32 := Scalar.addi v1181 v1182
  v1183.toNat
def k0_off43 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c368_i32 : BitVec 32 := 368#32
  let v52 : BitVec 32 := Scalar.addi v51 c368_i32
  let c512_i32_1051 : BitVec 32 := 512#32
  ![v52.toNat, 512]
def k0_dev63 (d0 : Dev nD) : Nat :=
  let c0_i32_1048 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1047 : BitVec 32 := 4#32
  let v1190 : BitVec 32 := Scalar.muli v2 c4_i32_1047
  let v1191 : BitVec 32 := Scalar.addi c0_i32_1048 v1190
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1049 : BitVec 32 := 2#32
  let v1192 : BitVec 32 := Scalar.muli v5 c2_i32_1049
  let v1193 : BitVec 32 := Scalar.addi v1191 v1192
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1050 : BitVec 32 := 1#32
  let v1194 : BitVec 32 := Scalar.muli v58 c1_i32_1050
  let v1195 : BitVec 32 := Scalar.addi v1193 v1194
  v1195.toNat
def k0_off44 (d0 : Dev nD) : Fin 2 → Nat :=
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_21 v5
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c656_i32 : BitVec 32 := 656#32
  let v53 : BitVec 32 := Scalar.muli v35 c656_i32
  let c384_i32_1078 : BitVec 32 := 384#32
  ![v53.toNat, 384]
def k0_dev64 (d0 : Dev nD) : Nat :=
  let c0_i32_1075 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1074 : BitVec 32 := 4#32
  let v1216 : BitVec 32 := Scalar.muli v2 c4_i32_1074
  let v1217 : BitVec 32 := Scalar.addi c0_i32_1075 v1216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1076 : BitVec 32 := 2#32
  let v1218 : BitVec 32 := Scalar.muli v5 c2_i32_1076
  let v1219 : BitVec 32 := Scalar.addi v1217 v1218
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1077 : BitVec 32 := 1#32
  let v1220 : BitVec 32 := Scalar.muli v58 c1_i32_1077
  let v1221 : BitVec 32 := Scalar.addi v1219 v1220
  v1221.toNat
def k0_off45 (d0 : Dev nD) : Fin 2 → Nat :=
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.muli c2_i32_23 v5
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c656_i32_31 : BitVec 32 := 656#32
  let v54 : BitVec 32 := Scalar.muli v38 c656_i32_31
  let c328_i32 : BitVec 32 := 328#32
  let v55 : BitVec 32 := Scalar.addi v54 c328_i32
  let c384_i32_1105 : BitVec 32 := 384#32
  ![v55.toNat, 384]
def k0_dev65 (d0 : Dev nD) : Nat :=
  let c0_i32_1102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1101 : BitVec 32 := 4#32
  let v1242 : BitVec 32 := Scalar.muli v2 c4_i32_1101
  let v1243 : BitVec 32 := Scalar.addi c0_i32_1102 v1242
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1103 : BitVec 32 := 2#32
  let v1244 : BitVec 32 := Scalar.muli v57 c2_i32_1103
  let v1245 : BitVec 32 := Scalar.addi v1243 v1244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1104 : BitVec 32 := 1#32
  let v1246 : BitVec 32 := Scalar.muli v8 c1_i32_1104
  let v1247 : BitVec 32 := Scalar.addi v1245 v1246
  v1247.toNat
def k0_dev66 (d0 : Dev nD) : Nat :=
  let c0_i32_1129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1128 : BitVec 32 := 4#32
  let v1270 : BitVec 32 := Scalar.muli v2 c4_i32_1128
  let v1271 : BitVec 32 := Scalar.addi c0_i32_1129 v1270
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1130 : BitVec 32 := 2#32
  let v1272 : BitVec 32 := Scalar.muli v57 c2_i32_1130
  let v1273 : BitVec 32 := Scalar.addi v1271 v1272
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1131 : BitVec 32 := 1#32
  let v1274 : BitVec 32 := Scalar.muli v8 c1_i32_1131
  let v1275 : BitVec 32 := Scalar.addi v1273 v1274
  v1275.toNat
def k0_dev67 (d0 : Dev nD) : Nat :=
  let c0_i32_1139 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1138 : BitVec 32 := 4#32
  let v1282 : BitVec 32 := Scalar.muli v2 c4_i32_1138
  let v1283 : BitVec 32 := Scalar.addi c0_i32_1139 v1282
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1140 : BitVec 32 := 2#32
  let v1284 : BitVec 32 := Scalar.muli v5 c2_i32_1140
  let v1285 : BitVec 32 := Scalar.addi v1283 v1284
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1141 : BitVec 32 := 1#32
  let v1286 : BitVec 32 := Scalar.muli v58 c1_i32_1141
  let v1287 : BitVec 32 := Scalar.addi v1285 v1286
  v1287.toNat
def k0_dev68 (d0 : Dev nD) : Nat :=
  let c0_i32_1166 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1165 : BitVec 32 := 4#32
  let v1310 : BitVec 32 := Scalar.muli v2 c4_i32_1165
  let v1311 : BitVec 32 := Scalar.addi c0_i32_1166 v1310
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1167 : BitVec 32 := 2#32
  let v1312 : BitVec 32 := Scalar.muli v57 c2_i32_1167
  let v1313 : BitVec 32 := Scalar.addi v1311 v1312
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1168 : BitVec 32 := 1#32
  let v1314 : BitVec 32 := Scalar.muli v8 c1_i32_1168
  let v1315 : BitVec 32 := Scalar.addi v1313 v1314
  v1315.toNat
def k0_dev69 (d0 : Dev nD) : Nat :=
  let c0_i32_1176 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1175 : BitVec 32 := 4#32
  let v1322 : BitVec 32 := Scalar.muli v2 c4_i32_1175
  let v1323 : BitVec 32 := Scalar.addi c0_i32_1176 v1322
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1177 : BitVec 32 := 2#32
  let v1324 : BitVec 32 := Scalar.muli v5 c2_i32_1177
  let v1325 : BitVec 32 := Scalar.addi v1323 v1324
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1178 : BitVec 32 := 1#32
  let v1326 : BitVec 32 := Scalar.muli v58 c1_i32_1178
  let v1327 : BitVec 32 := Scalar.addi v1325 v1326
  v1327.toNat
def k0_off46 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c640_i32_1206 : BitVec 32 := 640#32
  ![v51.toNat, 640]
def k0_dev70 (d0 : Dev nD) : Nat :=
  let c0_i32_1203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1202 : BitVec 32 := 4#32
  let v1350 : BitVec 32 := Scalar.muli v2 c4_i32_1202
  let v1351 : BitVec 32 := Scalar.addi c0_i32_1203 v1350
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1204 : BitVec 32 := 2#32
  let v1352 : BitVec 32 := Scalar.muli v57 c2_i32_1204
  let v1353 : BitVec 32 := Scalar.addi v1351 v1352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1205 : BitVec 32 := 1#32
  let v1354 : BitVec 32 := Scalar.muli v8 c1_i32_1205
  let v1355 : BitVec 32 := Scalar.addi v1353 v1354
  v1355.toNat
def k0_off47 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c368_i32 : BitVec 32 := 368#32
  let v52 : BitVec 32 := Scalar.addi v51 c368_i32
  let c640_i32_1216 : BitVec 32 := 640#32
  ![v52.toNat, 640]
def k0_dev71 (d0 : Dev nD) : Nat :=
  let c0_i32_1213 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1212 : BitVec 32 := 4#32
  let v1362 : BitVec 32 := Scalar.muli v2 c4_i32_1212
  let v1363 : BitVec 32 := Scalar.addi c0_i32_1213 v1362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1214 : BitVec 32 := 2#32
  let v1364 : BitVec 32 := Scalar.muli v5 c2_i32_1214
  let v1365 : BitVec 32 := Scalar.addi v1363 v1364
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1215 : BitVec 32 := 1#32
  let v1366 : BitVec 32 := Scalar.muli v58 c1_i32_1215
  let v1367 : BitVec 32 := Scalar.addi v1365 v1366
  v1367.toNat
def k0_off48 (d0 : Dev nD) : Fin 2 → Nat :=
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_21 v5
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c656_i32 : BitVec 32 := 656#32
  let v53 : BitVec 32 := Scalar.muli v35 c656_i32
  let c512_i32_1243 : BitVec 32 := 512#32
  ![v53.toNat, 512]
def k0_dev72 (d0 : Dev nD) : Nat :=
  let c0_i32_1240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1239 : BitVec 32 := 4#32
  let v1388 : BitVec 32 := Scalar.muli v2 c4_i32_1239
  let v1389 : BitVec 32 := Scalar.addi c0_i32_1240 v1388
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1241 : BitVec 32 := 2#32
  let v1390 : BitVec 32 := Scalar.muli v5 c2_i32_1241
  let v1391 : BitVec 32 := Scalar.addi v1389 v1390
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1242 : BitVec 32 := 1#32
  let v1392 : BitVec 32 := Scalar.muli v58 c1_i32_1242
  let v1393 : BitVec 32 := Scalar.addi v1391 v1392
  v1393.toNat
def k0_off49 (d0 : Dev nD) : Fin 2 → Nat :=
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.muli c2_i32_23 v5
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c656_i32_31 : BitVec 32 := 656#32
  let v54 : BitVec 32 := Scalar.muli v38 c656_i32_31
  let c328_i32 : BitVec 32 := 328#32
  let v55 : BitVec 32 := Scalar.addi v54 c328_i32
  let c512_i32_1270 : BitVec 32 := 512#32
  ![v55.toNat, 512]
def k0_dev73 (d0 : Dev nD) : Nat :=
  let c0_i32_1267 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1266 : BitVec 32 := 4#32
  let v1414 : BitVec 32 := Scalar.muli v2 c4_i32_1266
  let v1415 : BitVec 32 := Scalar.addi c0_i32_1267 v1414
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1268 : BitVec 32 := 2#32
  let v1416 : BitVec 32 := Scalar.muli v57 c2_i32_1268
  let v1417 : BitVec 32 := Scalar.addi v1415 v1416
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1269 : BitVec 32 := 1#32
  let v1418 : BitVec 32 := Scalar.muli v8 c1_i32_1269
  let v1419 : BitVec 32 := Scalar.addi v1417 v1418
  v1419.toNat
def k0_dev74 (d0 : Dev nD) : Nat :=
  let c0_i32_1294 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1293 : BitVec 32 := 4#32
  let v1442 : BitVec 32 := Scalar.muli v2 c4_i32_1293
  let v1443 : BitVec 32 := Scalar.addi c0_i32_1294 v1442
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1295 : BitVec 32 := 2#32
  let v1444 : BitVec 32 := Scalar.muli v57 c2_i32_1295
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1296 : BitVec 32 := 1#32
  let v1446 : BitVec 32 := Scalar.muli v8 c1_i32_1296
  let v1447 : BitVec 32 := Scalar.addi v1445 v1446
  v1447.toNat
def k0_dev75 (d0 : Dev nD) : Nat :=
  let c0_i32_1304 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1303 : BitVec 32 := 4#32
  let v1454 : BitVec 32 := Scalar.muli v2 c4_i32_1303
  let v1455 : BitVec 32 := Scalar.addi c0_i32_1304 v1454
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1305 : BitVec 32 := 2#32
  let v1456 : BitVec 32 := Scalar.muli v5 c2_i32_1305
  let v1457 : BitVec 32 := Scalar.addi v1455 v1456
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1306 : BitVec 32 := 1#32
  let v1458 : BitVec 32 := Scalar.muli v58 c1_i32_1306
  let v1459 : BitVec 32 := Scalar.addi v1457 v1458
  v1459.toNat
def k0_dev76 (d0 : Dev nD) : Nat :=
  let c0_i32_1331 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1330 : BitVec 32 := 4#32
  let v1482 : BitVec 32 := Scalar.muli v2 c4_i32_1330
  let v1483 : BitVec 32 := Scalar.addi c0_i32_1331 v1482
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1332 : BitVec 32 := 2#32
  let v1484 : BitVec 32 := Scalar.muli v57 c2_i32_1332
  let v1485 : BitVec 32 := Scalar.addi v1483 v1484
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1333 : BitVec 32 := 1#32
  let v1486 : BitVec 32 := Scalar.muli v8 c1_i32_1333
  let v1487 : BitVec 32 := Scalar.addi v1485 v1486
  v1487.toNat
def k0_dev77 (d0 : Dev nD) : Nat :=
  let c0_i32_1341 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1340 : BitVec 32 := 4#32
  let v1494 : BitVec 32 := Scalar.muli v2 c4_i32_1340
  let v1495 : BitVec 32 := Scalar.addi c0_i32_1341 v1494
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1342 : BitVec 32 := 2#32
  let v1496 : BitVec 32 := Scalar.muli v5 c2_i32_1342
  let v1497 : BitVec 32 := Scalar.addi v1495 v1496
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1343 : BitVec 32 := 1#32
  let v1498 : BitVec 32 := Scalar.muli v58 c1_i32_1343
  let v1499 : BitVec 32 := Scalar.addi v1497 v1498
  v1499.toNat
def k0_off50 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c768_i32_1371 : BitVec 32 := 768#32
  ![v51.toNat, 768]
def k0_dev78 (d0 : Dev nD) : Nat :=
  let c0_i32_1368 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1367 : BitVec 32 := 4#32
  let v1522 : BitVec 32 := Scalar.muli v2 c4_i32_1367
  let v1523 : BitVec 32 := Scalar.addi c0_i32_1368 v1522
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1369 : BitVec 32 := 2#32
  let v1524 : BitVec 32 := Scalar.muli v57 c2_i32_1369
  let v1525 : BitVec 32 := Scalar.addi v1523 v1524
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1370 : BitVec 32 := 1#32
  let v1526 : BitVec 32 := Scalar.muli v8 c1_i32_1370
  let v1527 : BitVec 32 := Scalar.addi v1525 v1526
  v1527.toNat
def k0_off51 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c368_i32 : BitVec 32 := 368#32
  let v52 : BitVec 32 := Scalar.addi v51 c368_i32
  let c768_i32_1381 : BitVec 32 := 768#32
  ![v52.toNat, 768]
def k0_dev79 (d0 : Dev nD) : Nat :=
  let c0_i32_1378 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1377 : BitVec 32 := 4#32
  let v1534 : BitVec 32 := Scalar.muli v2 c4_i32_1377
  let v1535 : BitVec 32 := Scalar.addi c0_i32_1378 v1534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1379 : BitVec 32 := 2#32
  let v1536 : BitVec 32 := Scalar.muli v5 c2_i32_1379
  let v1537 : BitVec 32 := Scalar.addi v1535 v1536
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1380 : BitVec 32 := 1#32
  let v1538 : BitVec 32 := Scalar.muli v58 c1_i32_1380
  let v1539 : BitVec 32 := Scalar.addi v1537 v1538
  v1539.toNat
def k0_off52 (d0 : Dev nD) : Fin 2 → Nat :=
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_21 v5
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c656_i32 : BitVec 32 := 656#32
  let v53 : BitVec 32 := Scalar.muli v35 c656_i32
  let c640_i32_1408 : BitVec 32 := 640#32
  ![v53.toNat, 640]
def k0_dev80 (d0 : Dev nD) : Nat :=
  let c0_i32_1405 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1404 : BitVec 32 := 4#32
  let v1560 : BitVec 32 := Scalar.muli v2 c4_i32_1404
  let v1561 : BitVec 32 := Scalar.addi c0_i32_1405 v1560
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1406 : BitVec 32 := 2#32
  let v1562 : BitVec 32 := Scalar.muli v5 c2_i32_1406
  let v1563 : BitVec 32 := Scalar.addi v1561 v1562
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1407 : BitVec 32 := 1#32
  let v1564 : BitVec 32 := Scalar.muli v58 c1_i32_1407
  let v1565 : BitVec 32 := Scalar.addi v1563 v1564
  v1565.toNat
def k0_off53 (d0 : Dev nD) : Fin 2 → Nat :=
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.muli c2_i32_23 v5
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c656_i32_31 : BitVec 32 := 656#32
  let v54 : BitVec 32 := Scalar.muli v38 c656_i32_31
  let c328_i32 : BitVec 32 := 328#32
  let v55 : BitVec 32 := Scalar.addi v54 c328_i32
  let c640_i32_1435 : BitVec 32 := 640#32
  ![v55.toNat, 640]
def k0_dev81 (d0 : Dev nD) : Nat :=
  let c0_i32_1432 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1431 : BitVec 32 := 4#32
  let v1586 : BitVec 32 := Scalar.muli v2 c4_i32_1431
  let v1587 : BitVec 32 := Scalar.addi c0_i32_1432 v1586
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1433 : BitVec 32 := 2#32
  let v1588 : BitVec 32 := Scalar.muli v57 c2_i32_1433
  let v1589 : BitVec 32 := Scalar.addi v1587 v1588
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1434 : BitVec 32 := 1#32
  let v1590 : BitVec 32 := Scalar.muli v8 c1_i32_1434
  let v1591 : BitVec 32 := Scalar.addi v1589 v1590
  v1591.toNat
def k0_dev82 (d0 : Dev nD) : Nat :=
  let c0_i32_1459 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1458 : BitVec 32 := 4#32
  let v1614 : BitVec 32 := Scalar.muli v2 c4_i32_1458
  let v1615 : BitVec 32 := Scalar.addi c0_i32_1459 v1614
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1460 : BitVec 32 := 2#32
  let v1616 : BitVec 32 := Scalar.muli v57 c2_i32_1460
  let v1617 : BitVec 32 := Scalar.addi v1615 v1616
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1461 : BitVec 32 := 1#32
  let v1618 : BitVec 32 := Scalar.muli v8 c1_i32_1461
  let v1619 : BitVec 32 := Scalar.addi v1617 v1618
  v1619.toNat
def k0_dev83 (d0 : Dev nD) : Nat :=
  let c0_i32_1469 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1468 : BitVec 32 := 4#32
  let v1626 : BitVec 32 := Scalar.muli v2 c4_i32_1468
  let v1627 : BitVec 32 := Scalar.addi c0_i32_1469 v1626
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1470 : BitVec 32 := 2#32
  let v1628 : BitVec 32 := Scalar.muli v5 c2_i32_1470
  let v1629 : BitVec 32 := Scalar.addi v1627 v1628
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1471 : BitVec 32 := 1#32
  let v1630 : BitVec 32 := Scalar.muli v58 c1_i32_1471
  let v1631 : BitVec 32 := Scalar.addi v1629 v1630
  v1631.toNat
def k0_dev84 (d0 : Dev nD) : Nat :=
  let c0_i32_1496 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1495 : BitVec 32 := 4#32
  let v1654 : BitVec 32 := Scalar.muli v2 c4_i32_1495
  let v1655 : BitVec 32 := Scalar.addi c0_i32_1496 v1654
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1497 : BitVec 32 := 2#32
  let v1656 : BitVec 32 := Scalar.muli v57 c2_i32_1497
  let v1657 : BitVec 32 := Scalar.addi v1655 v1656
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1498 : BitVec 32 := 1#32
  let v1658 : BitVec 32 := Scalar.muli v8 c1_i32_1498
  let v1659 : BitVec 32 := Scalar.addi v1657 v1658
  v1659.toNat
def k0_dev85 (d0 : Dev nD) : Nat :=
  let c0_i32_1506 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1505 : BitVec 32 := 4#32
  let v1666 : BitVec 32 := Scalar.muli v2 c4_i32_1505
  let v1667 : BitVec 32 := Scalar.addi c0_i32_1506 v1666
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1507 : BitVec 32 := 2#32
  let v1668 : BitVec 32 := Scalar.muli v5 c2_i32_1507
  let v1669 : BitVec 32 := Scalar.addi v1667 v1668
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1508 : BitVec 32 := 1#32
  let v1670 : BitVec 32 := Scalar.muli v58 c1_i32_1508
  let v1671 : BitVec 32 := Scalar.addi v1669 v1670
  v1671.toNat
def k0_off54 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c896_i32_1536 : BitVec 32 := 896#32
  ![v51.toNat, 896]
def k0_dev86 (d0 : Dev nD) : Nat :=
  let c0_i32_1533 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1532 : BitVec 32 := 4#32
  let v1694 : BitVec 32 := Scalar.muli v2 c4_i32_1532
  let v1695 : BitVec 32 := Scalar.addi c0_i32_1533 v1694
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1534 : BitVec 32 := 2#32
  let v1696 : BitVec 32 := Scalar.muli v57 c2_i32_1534
  let v1697 : BitVec 32 := Scalar.addi v1695 v1696
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1535 : BitVec 32 := 1#32
  let v1698 : BitVec 32 := Scalar.muli v8 c1_i32_1535
  let v1699 : BitVec 32 := Scalar.addi v1697 v1698
  v1699.toNat
def k0_off55 (d0 : Dev nD) : Fin 2 → Nat :=
  let c2624_i32 : BitVec 32 := 2624#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v5 v8
  let c2_i32_25 : BitVec 32 := 2#32
  let c0_i32_26 : BitVec 32 := 0#32
  let v40 : BitVec 1 := Scalar.cmpi .eq c2_i32_25 c0_i32_26
  let c1_i32_27 : BitVec 32 := 1#32
  let v41 : BitVec 32 := Scalar.select v40 c1_i32_27 c2_i32_25
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c736_i32 : BitVec 32 := 736#32
  let v50 : BitVec 32 := Scalar.muli v49 c736_i32
  let v51 : BitVec 32 := Scalar.addi c2624_i32 v50
  let c368_i32 : BitVec 32 := 368#32
  let v52 : BitVec 32 := Scalar.addi v51 c368_i32
  let c896_i32_1546 : BitVec 32 := 896#32
  ![v52.toNat, 896]
def k0_dev87 (d0 : Dev nD) : Nat :=
  let c0_i32_1543 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1542 : BitVec 32 := 4#32
  let v1706 : BitVec 32 := Scalar.muli v2 c4_i32_1542
  let v1707 : BitVec 32 := Scalar.addi c0_i32_1543 v1706
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1544 : BitVec 32 := 2#32
  let v1708 : BitVec 32 := Scalar.muli v5 c2_i32_1544
  let v1709 : BitVec 32 := Scalar.addi v1707 v1708
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1545 : BitVec 32 := 1#32
  let v1710 : BitVec 32 := Scalar.muli v58 c1_i32_1545
  let v1711 : BitVec 32 := Scalar.addi v1709 v1710
  v1711.toNat
def k0_off56 (d0 : Dev nD) : Fin 2 → Nat :=
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_21 v5
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c656_i32 : BitVec 32 := 656#32
  let v53 : BitVec 32 := Scalar.muli v35 c656_i32
  let c768_i32_1573 : BitVec 32 := 768#32
  ![v53.toNat, 768]
def k0_dev88 (d0 : Dev nD) : Nat :=
  let c0_i32_1570 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1569 : BitVec 32 := 4#32
  let v1732 : BitVec 32 := Scalar.muli v2 c4_i32_1569
  let v1733 : BitVec 32 := Scalar.addi c0_i32_1570 v1732
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1571 : BitVec 32 := 2#32
  let v1734 : BitVec 32 := Scalar.muli v5 c2_i32_1571
  let v1735 : BitVec 32 := Scalar.addi v1733 v1734
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1572 : BitVec 32 := 1#32
  let v1736 : BitVec 32 := Scalar.muli v58 c1_i32_1572
  let v1737 : BitVec 32 := Scalar.addi v1735 v1736
  v1737.toNat
def k0_off57 (d0 : Dev nD) : Fin 2 → Nat :=
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.muli c2_i32_23 v5
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c656_i32_31 : BitVec 32 := 656#32
  let v54 : BitVec 32 := Scalar.muli v38 c656_i32_31
  let c328_i32 : BitVec 32 := 328#32
  let v55 : BitVec 32 := Scalar.addi v54 c328_i32
  let c768_i32_1600 : BitVec 32 := 768#32
  ![v55.toNat, 768]
def k0_dev89 (d0 : Dev nD) : Nat :=
  let c0_i32_1597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1596 : BitVec 32 := 4#32
  let v1758 : BitVec 32 := Scalar.muli v2 c4_i32_1596
  let v1759 : BitVec 32 := Scalar.addi c0_i32_1597 v1758
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1598 : BitVec 32 := 2#32
  let v1760 : BitVec 32 := Scalar.muli v57 c2_i32_1598
  let v1761 : BitVec 32 := Scalar.addi v1759 v1760
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1599 : BitVec 32 := 1#32
  let v1762 : BitVec 32 := Scalar.muli v8 c1_i32_1599
  let v1763 : BitVec 32 := Scalar.addi v1761 v1762
  v1763.toNat
def k0_off58 (d0 : Dev nD) : Fin 2 → Nat :=
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_21 v5
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c656_i32 : BitVec 32 := 656#32
  let v53 : BitVec 32 := Scalar.muli v35 c656_i32
  let c896_i32_1627 : BitVec 32 := 896#32
  ![v53.toNat, 896]
def k0_dev90 (d0 : Dev nD) : Nat :=
  let c0_i32_1624 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1623 : BitVec 32 := 4#32
  let v1784 : BitVec 32 := Scalar.muli v2 c4_i32_1623
  let v1785 : BitVec 32 := Scalar.addi c0_i32_1624 v1784
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1625 : BitVec 32 := 2#32
  let v1786 : BitVec 32 := Scalar.muli v5 c2_i32_1625
  let v1787 : BitVec 32 := Scalar.addi v1785 v1786
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_34 v8
  let c1_i32_1626 : BitVec 32 := 1#32
  let v1788 : BitVec 32 := Scalar.muli v58 c1_i32_1626
  let v1789 : BitVec 32 := Scalar.addi v1787 v1788
  v1789.toNat
def k0_off59 (d0 : Dev nD) : Fin 2 → Nat :=
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.muli c2_i32_23 v5
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c656_i32_31 : BitVec 32 := 656#32
  let v54 : BitVec 32 := Scalar.muli v38 c656_i32_31
  let c328_i32 : BitVec 32 := 328#32
  let v55 : BitVec 32 := Scalar.addi v54 c328_i32
  let c896_i32_1654 : BitVec 32 := 896#32
  ![v55.toNat, 896]
def k0_dev91 (d0 : Dev nD) : Nat :=
  let c0_i32_1651 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1650 : BitVec 32 := 4#32
  let v1810 : BitVec 32 := Scalar.muli v2 c4_i32_1650
  let v1811 : BitVec 32 := Scalar.addi c0_i32_1651 v1810
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_1652 : BitVec 32 := 2#32
  let v1812 : BitVec 32 := Scalar.muli v57 c2_i32_1652
  let v1813 : BitVec 32 := Scalar.addi v1811 v1812
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1653 : BitVec 32 := 1#32
  let v1814 : BitVec 32 := Scalar.muli v8 c1_i32_1653
  let v1815 : BitVec 32 := Scalar.addi v1813 v1814
  v1815.toNat
def k0_off60 (d0 : Dev nD) (c0_i32_1760 : BitVec 32) : Fin 3 → Nat :=
  let c0_1761 : Index := 0#32
  let c0_1762 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_1759 : BitVec 32 := 1024#32
  let v1908 : BitVec 32 := Scalar.muli v2 c1024_i32_1759
  let v1909 : BitVec 32 := Scalar.addi v1908 c0_i32_1760
  let v1910 : Index := Scalar.indexCast v1909
  ![0, 0, v1910.toNat]
abbrev stage0_0 : Fin 1 → Memref sig .tc .vmem S1x4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ops.lean ====
/-
The kernel's body as a list of operations. One call of the body runs 88 copies between devices (eleven slots for
each of eight column chunks), waits for each, and adds the resident half chunk by chunk. This module names the
offsets and targets of the copies slot by slot, states the body as `runOps` of one list `prog` and proves the
printed body equal to it.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.MeshSum

open Cert.KernelIdeal Cert.KernelIdeal.Gen
open Idealize.ShloMosaic Idealize.SL.Sem
open Idealize.ShloMosaic.TcCoe

variable {F : FTy → Type} [FloatOps F]

/-! ## Tables -/

/-- Offsets, chunk by chunk: where the first half of the own row block lands (slot 0), and what slots 3 and 4 pass on. -/
def off_own1 (c : Dev nD) : Fin 8 → Fin 2 → Nat
  | 0 => k0_off1 c
  | 1 => k0_off7 c
  | 2 => k0_off10 c
  | 3 => k0_off13 c
  | 4 => k0_off16 c
  | 5 => k0_off19 c
  | 6 => k0_off22 c
  | 7 => k0_off25 c

/-- Offsets, chunk by chunk: where the second half of the own row block lands (slot 1), and what slots 5 and 6 pass on. -/
def off_own2 (c : Dev nD) : Fin 8 → Fin 2 → Nat
  | 0 => k0_off3 c
  | 1 => k0_off8 c
  | 2 => k0_off11 c
  | 3 => k0_off14 c
  | 4 => k0_off17 c
  | 5 => k0_off20 c
  | 6 => k0_off23 c
  | 7 => k0_off26 c

/-- Offsets, chunk by chunk: where the own rows of the shared tail land (slot 2). -/
def off_ownD (c : Dev nD) : Fin 8 → Fin 2 → Nat
  | 0 => k0_off5 c
  | 1 => k0_off9 c
  | 2 => k0_off12 c
  | 3 => k0_off15 c
  | 4 => k0_off18 c
  | 5 => k0_off21 c
  | 6 => k0_off24 c
  | 7 => k0_off27 c

/-- Offsets, chunk by chunk: the first half of the own tail rows (slot 7). -/
def off_d1 (c : Dev nD) : Fin 8 → Fin 2 → Nat
  | 0 => k0_off28 c
  | 1 => k0_off30 c
  | 2 => k0_off34 c
  | 3 => k0_off38 c
  | 4 => k0_off42 c
  | 5 => k0_off46 c
  | 6 => k0_off50 c
  | 7 => k0_off54 c

/-- Offsets, chunk by chunk: the second half of the block received along z (slot 8). -/
def off_z2 (c : Dev nD) : Fin 8 → Fin 2 → Nat
  | 0 => k0_off33 c
  | 1 => k0_off37 c
  | 2 => k0_off41 c
  | 3 => k0_off45 c
  | 4 => k0_off49 c
  | 5 => k0_off53 c
  | 6 => k0_off57 c
  | 7 => k0_off59 c

/-- Offsets, chunk by chunk: the first half of the block received along y (slot 9). -/
def off_y1 (c : Dev nD) : Fin 8 → Fin 2 → Nat
  | 0 => k0_off32 c
  | 1 => k0_off36 c
  | 2 => k0_off40 c
  | 3 => k0_off44 c
  | 4 => k0_off48 c
  | 5 => k0_off52 c
  | 6 => k0_off56 c
  | 7 => k0_off58 c

/-- Offsets, chunk by chunk: the second half of the own tail rows (slot 10). -/
def off_d2 (c : Dev nD) : Fin 8 → Fin 2 → Nat
  | 0 => k0_off29 c
  | 1 => k0_off31 c
  | 2 => k0_off35 c
  | 3 => k0_off39 c
  | 4 => k0_off43 c
  | 5 => k0_off47 c
  | 6 => k0_off51 c
  | 7 => k0_off55 c

/-- The offsets of slot `s`'s rectangle of the output buffer, the same on the sender and on the receiver. -/
def offO (s : Fin 11) (ch : Fin 8) (c : Dev nD) : Fin 2 → Nat :=
  match s with
  | 0 => off_own1 c ch
  | 1 => off_own2 c ch
  | 2 => off_ownD c ch
  | 3 => off_own1 c ch
  | 4 => off_own1 c ch
  | 5 => off_own2 c ch
  | 6 => off_own2 c ch
  | 7 => off_d1 c ch
  | 8 => off_z2 c ch
  | 9 => off_y1 c ch
  | 10 => off_d2 c ch

/-- The device slot 0 sends to, as each chunk's code computes it. -/
def dev_0 (c : Dev nD) : Fin 8 → Dev nD
  | 0 => ⟨k0_dev4 c, k0_dev4_lt c⟩
  | 1 => ⟨k0_dev7 c, k0_dev7_lt c⟩
  | 2 => ⟨k0_dev10 c, k0_dev10_lt c⟩
  | 3 => ⟨k0_dev13 c, k0_dev13_lt c⟩
  | 4 => ⟨k0_dev16 c, k0_dev16_lt c⟩
  | 5 => ⟨k0_dev19 c, k0_dev19_lt c⟩
  | 6 => ⟨k0_dev22 c, k0_dev22_lt c⟩
  | 7 => ⟨k0_dev25 c, k0_dev25_lt c⟩

/-- The device slot 1 sends to, as each chunk's code computes it. -/
def dev_1 (c : Dev nD) : Fin 8 → Dev nD
  | 0 => ⟨k0_dev5 c, k0_dev5_lt c⟩
  | 1 => ⟨k0_dev8 c, k0_dev8_lt c⟩
  | 2 => ⟨k0_dev11 c, k0_dev11_lt c⟩
  | 3 => ⟨k0_dev14 c, k0_dev14_lt c⟩
  | 4 => ⟨k0_dev17 c, k0_dev17_lt c⟩
  | 5 => ⟨k0_dev20 c, k0_dev20_lt c⟩
  | 6 => ⟨k0_dev23 c, k0_dev23_lt c⟩
  | 7 => ⟨k0_dev26 c, k0_dev26_lt c⟩

/-- The device slot 2 sends to, as each chunk's code computes it. -/
def dev_2 (c : Dev nD) : Fin 8 → Dev nD
  | 0 => ⟨k0_dev6 c, k0_dev6_lt c⟩
  | 1 => ⟨k0_dev9 c, k0_dev9_lt c⟩
  | 2 => ⟨k0_dev12 c, k0_dev12_lt c⟩
  | 3 => ⟨k0_dev15 c, k0_dev15_lt c⟩
  | 4 => ⟨k0_dev18 c, k0_dev18_lt c⟩
  | 5 => ⟨k0_dev21 c, k0_dev21_lt c⟩
  | 6 => ⟨k0_dev24 c, k0_dev24_lt c⟩
  | 7 => ⟨k0_dev27 c, k0_dev27_lt c⟩

/-- The device slot 3 sends to, as each chunk's code computes it. -/
def dev_3 (c : Dev nD) : Fin 8 → Dev nD
  | 0 => ⟨k0_dev28 c, k0_dev28_lt c⟩
  | 1 => ⟨k0_dev34 c, k0_dev34_lt c⟩
  | 2 => ⟨k0_dev42 c, k0_dev42_lt c⟩
  | 3 => ⟨k0_dev50 c, k0_dev50_lt c⟩
  | 4 => ⟨k0_dev58 c, k0_dev58_lt c⟩
  | 5 => ⟨k0_dev66 c, k0_dev66_lt c⟩
  | 6 => ⟨k0_dev74 c, k0_dev74_lt c⟩
  | 7 => ⟨k0_dev82 c, k0_dev82_lt c⟩

/-- The device slot 4 sends to, as each chunk's code computes it. -/
def dev_4 (c : Dev nD) : Fin 8 → Dev nD
  | 0 => ⟨k0_dev29 c, k0_dev29_lt c⟩
  | 1 => ⟨k0_dev35 c, k0_dev35_lt c⟩
  | 2 => ⟨k0_dev43 c, k0_dev43_lt c⟩
  | 3 => ⟨k0_dev51 c, k0_dev51_lt c⟩
  | 4 => ⟨k0_dev59 c, k0_dev59_lt c⟩
  | 5 => ⟨k0_dev67 c, k0_dev67_lt c⟩
  | 6 => ⟨k0_dev75 c, k0_dev75_lt c⟩
  | 7 => ⟨k0_dev83 c, k0_dev83_lt c⟩

/-- The device slot 5 sends to, as each chunk's code computes it. -/
def dev_5 (c : Dev nD) : Fin 8 → Dev nD
  | 0 => ⟨k0_dev30 c, k0_dev30_lt c⟩
  | 1 => ⟨k0_dev36 c, k0_dev36_lt c⟩
  | 2 => ⟨k0_dev44 c, k0_dev44_lt c⟩
  | 3 => ⟨k0_dev52 c, k0_dev52_lt c⟩
  | 4 => ⟨k0_dev60 c, k0_dev60_lt c⟩
  | 5 => ⟨k0_dev68 c, k0_dev68_lt c⟩
  | 6 => ⟨k0_dev76 c, k0_dev76_lt c⟩
  | 7 => ⟨k0_dev84 c, k0_dev84_lt c⟩

/-- The device slot 6 sends to, as each chunk's code computes it. -/
def dev_6 (c : Dev nD) : Fin 8 → Dev nD
  | 0 => ⟨k0_dev31 c, k0_dev31_lt c⟩
  | 1 => ⟨k0_dev37 c, k0_dev37_lt c⟩
  | 2 => ⟨k0_dev45 c, k0_dev45_lt c⟩
  | 3 => ⟨k0_dev53 c, k0_dev53_lt c⟩
  | 4 => ⟨k0_dev61 c, k0_dev61_lt c⟩
  | 5 => ⟨k0_dev69 c, k0_dev69_lt c⟩
  | 6 => ⟨k0_dev77 c, k0_dev77_lt c⟩
  | 7 => ⟨k0_dev85 c, k0_dev85_lt c⟩

/-- The device slot 7 sends to, as each chunk's code computes it. -/
def dev_7 (c : Dev nD) : Fin 8 → Dev nD
  | 0 => ⟨k0_dev32 c, k0_dev32_lt c⟩
  | 1 => ⟨k0_dev38 c, k0_dev38_lt c⟩
  | 2 => ⟨k0_dev46 c, k0_dev46_lt c⟩
  | 3 => ⟨k0_dev54 c, k0_dev54_lt c⟩
  | 4 => ⟨k0_dev62 c, k0_dev62_lt c⟩
  | 5 => ⟨k0_dev70 c, k0_dev70_lt c⟩
  | 6 => ⟨k0_dev78 c, k0_dev78_lt c⟩
  | 7 => ⟨k0_dev86 c, k0_dev86_lt c⟩

/-- The device slot 8 sends to, as each chunk's code computes it. -/
def dev_8 (c : Dev nD) : Fin 8 → Dev nD
  | 0 => ⟨k0_dev41 c, k0_dev41_lt c⟩
  | 1 => ⟨k0_dev49 c, k0_dev49_lt c⟩
  | 2 => ⟨k0_dev57 c, k0_dev57_lt c⟩
  | 3 => ⟨k0_dev65 c, k0_dev65_lt c⟩
  | 4 => ⟨k0_dev73 c, k0_dev73_lt c⟩
  | 5 => ⟨k0_dev81 c, k0_dev81_lt c⟩
  | 6 => ⟨k0_dev89 c, k0_dev89_lt c⟩
  | 7 => ⟨k0_dev91 c, k0_dev91_lt c⟩

/-- The device slot 9 sends to, as each chunk's code computes it. -/
def dev_9 (c : Dev nD) : Fin 8 → Dev nD
  | 0 => ⟨k0_dev40 c, k0_dev40_lt c⟩
  | 1 => ⟨k0_dev48 c, k0_dev48_lt c⟩
  | 2 => ⟨k0_dev56 c, k0_dev56_lt c⟩
  | 3 => ⟨k0_dev64 c, k0_dev64_lt c⟩
  | 4 => ⟨k0_dev72 c, k0_dev72_lt c⟩
  | 5 => ⟨k0_dev80 c, k0_dev80_lt c⟩
  | 6 => ⟨k0_dev88 c, k0_dev88_lt c⟩
  | 7 => ⟨k0_dev90 c, k0_dev90_lt c⟩

/-- The device slot 10 sends to, as each chunk's code computes it. -/
def dev_10 (c : Dev nD) : Fin 8 → Dev nD
  | 0 => ⟨k0_dev33 c, k0_dev33_lt c⟩
  | 1 => ⟨k0_dev39 c, k0_dev39_lt c⟩
  | 2 => ⟨k0_dev47 c, k0_dev47_lt c⟩
  | 3 => ⟨k0_dev55 c, k0_dev55_lt c⟩
  | 4 => ⟨k0_dev63 c, k0_dev63_lt c⟩
  | 5 => ⟨k0_dev71 c, k0_dev71_lt c⟩
  | 6 => ⟨k0_dev79 c, k0_dev79_lt c⟩
  | 7 => ⟨k0_dev87 c, k0_dev87_lt c⟩

/-- The device slot `s` sends to. -/
def devT (s : Fin 11) (ch : Fin 8) (c : Dev nD) : Dev nD :=
  match s with
  | 0 => dev_0 c ch
  | 1 => dev_1 c ch
  | 2 => dev_2 c ch
  | 3 => dev_3 c ch
  | 4 => dev_4 c ch
  | 5 => dev_5 c ch
  | 6 => dev_6 c ch
  | 7 => dev_7 c ch
  | 8 => dev_8 c ch
  | 9 => dev_9 c ch
  | 10 => dev_10 c ch

/-- How many rows slot `s` moves per chunk. -/
def nrow (s : Fin 11) : Nat := match s with | 2 => 736 | 7 => 368 | 10 => 368 | _ => 328

/-- Offsets of the columns of the input which slots 0, 1 and 2 read. -/
def offX (s : Fin 11) (ch : Fin 8) (c : Dev nD) : Fin 3 → Nat :=
  match s with
  | 0 => k0_off2 c (BitVec.ofNat 32 (128 * ch.val))
  | 1 => k0_off4 c (BitVec.ofNat 32 (128 * ch.val))
  | _ => k0_off6 c (BitVec.ofNat 32 (128 * ch.val))

theorem inbO (s : Fin 11) (ch : Fin 8) (c : Dev nD) : ∀ a, offO s ch c a + (⟨2, ![nrow s, 128]⟩ : Shape).size a ≤ S4096x1024.size a := by
  revert s ch c; decide +kernel

theorem inbX (s : Fin 11) (hs : s.val < 3) (ch : Fin 8) (c : Dev nD) :
    ∀ a, offX s ch c a + (⟨3, ![1, nrow s, 128]⟩ : Shape).size a ≤ S1x4096x2048.size a := by
  revert s ch c; decide +kernel

theorem inbS (s : Fin 11) (ch : Fin 8) : ∀ a, (![s.val, ch.val] : Fin 2 → Nat) a + S1x1.size a ≤ S11x8.size a := by
  revert s ch; decide

theorem inbC (ch : Fin 8) : ∀ a, (![0, 128 * ch.val] : Fin 2 → Nat) a + S4096x128.size a ≤ S4096x1024.size a := by
  revert ch; decide

theorem sqX (s : Fin 11) : (⟨3, ![1, nrow s, 128]⟩ : Shape).Squeezes ⟨2, ![nrow s, 128]⟩ := by
  revert s; decide

/-! ## Views and semaphores -/

/-- The staged input. -/
abbrev xM : Memref sig .tc .vmem S1x4096x2048 .f32 := Memref.whole cc0_stg0_0
/-- The staged output. -/
abbrev oM : Memref sig .tc .vmem S4096x1024 .f32 := Memref.whole cc0_stg1_0

/-- Slot `s`'s rectangle of the output buffer. -/
def oV (s : Fin 11) (ch : Fin 8) (c : Dev nD) : Memref sig .tc .vmem ⟨2, ![nrow s, 128]⟩ .f32 :=
  oM.slice (Rect.unit (s := S4096x1024) (offO s ch c) (⟨2, ![nrow s, 128]⟩ : Shape).size (inbO s ch c)) (fun _ => rfl)

/-- Slot `s`'s rectangle of the input buffer (slots 0, 1 and 2). -/
def xV (s : Fin 11) (hs : s.val < 3) (ch : Fin 8) (c : Dev nD) : Memref sig .tc .vmem ⟨2, ![nrow s, 128]⟩ .f32 :=
  (xM.slice (Rect.unit (s := S1x4096x2048) (offX s ch c) (⟨3, ![1, nrow s, 128]⟩ : Shape).size (inbX s hs ch c)) (fun _ => rfl)).squeeze
    ⟨2, ![nrow s, 128]⟩ (sqX s)

/-- What slot `s` sends: a rectangle of the input for slots 0, 1, 2, one of the output for the others. -/
def srcV (s : Fin 11) (ch : Fin 8) (c : Dev nD) : Memref sig .tc .vmem ⟨2, ![nrow s, 128]⟩ .f32 :=
  if hs : s.val < 3 then xV s hs ch c else oV s ch c

/-- The semaphore a send of slot `s`, chunk `ch` credits on the sender. -/
def sSem (s : Fin 11) (ch : Fin 8) : DmaSem sig :=
  ((cc0_scratch0.slice (Rect.unit (s := S11x8) ![s.val, ch.val] S1x1.size (inbS s ch))).squeeze S_ squeezes_S1x1_S_).sem
/-- The semaphore it credits on the receiver. -/
def rSem (s : Fin 11) (ch : Fin 8) : DmaSem sig :=
  ((cc0_scratch1.slice (Rect.unit (s := S11x8) ![s.val, ch.val] S1x1.size (inbS s ch))).squeeze S_ squeezes_S1x1_S_).sem
/-- The runtime's barrier semaphore. -/
def barS : Sem sig := (SemArray.scalar (sig.barrier 0 rfl) : Sems sig S_).sem

theorem oV_wordExact (s : Fin 11) (ch : Fin 8) (c : Dev nD) : (oV s ch c).view.WordExact := View.wordExact_bits rfl
theorem srcV_wordExact (s : Fin 11) (ch : Fin 8) (c : Dev nD) : (srcV s ch c).view.WordExact := by
  unfold srcV; split
  · exact (View.wordExact_bits rfl).reshape _ _
  · exact oV_wordExact s ch c

/-! ## The operations -/

/-- The steps of the body after the entry handshake. -/
inductive Op where
  /-- Start the copy of slot `s`, chunk `ch`. -/
  | start (s : Fin 11) (ch : Fin 8)
  /-- Wait for it on both of its semaphores. -/
  | wait (s : Fin 11) (ch : Fin 8)
  /-- Add the resident half into chunk `ch`. -/
  | rmw (ch : Fin 8)
deriving DecidableEq

/-- The program of one copy. -/
def startP (c : Dev nD) (s : Fin 11) (ch : Fin 8) : Prog (TpuEff nD τ sig (Elt F) Λ₀ .tc) PUnit :=
  Prog.lift (.enqueueDma (srcV s ch c) (.remote (Dev.tc (devT s ch c)) (oV s ch c) (.dma (sSem s ch))) (.dma (rSem s ch))
    (srcV_wordExact s ch c) (oV_wordExact s ch c) ⟨⟨rfl, Or.inl rfl⟩, trivial⟩)

/-- The program of one wait: first on the send semaphore, then on the receive semaphore. -/
def waitP (c : Dev nD) (s : Fin 11) (ch : Fin 8) : Prog (TpuEff nD τ sig (Elt F) Λ₀ .tc) PUnit := do
  Prog.lift (.waitDma2 (sSem s ch) (oV s ch c) (srcV s ch c) (oV_wordExact s ch c) (srcV_wordExact s ch c))
  Prog.lift (.waitDma2 (rSem s ch) (srcV s ch c) (oV s ch c) (srcV_wordExact s ch c) (oV_wordExact s ch c))

/-- The sum that chunk `ch` stores: what arrived plus the resident half. -/
def payC (v : Vec F S4096x128 .f32) (w : Vec F S1x4096x128 .f32) : Vec F S4096x128 .f32 :=
  addf (shapeCast S4096x128 v shapeCasts_S4096x128_S4096x128 : FVec F S4096x128 .f32)
    (shapeCast S4096x128 w shapeCasts_S1x4096x128_S4096x128 : FVec F S4096x128 .f32)

/-- Chunk `ch` of the output buffer. -/
abbrev rectC (ch : Fin 8) : Rect S4096x1024 := Rect.unit (s := S4096x1024) ![0, 128 * ch.val] S4096x128.size (inbC ch)
/-- The resident half's columns of chunk `ch` of the input buffer. -/
abbrev rectX (c : Dev nD) (ch : Fin 8) : Rect S1x4096x2048 :=
  Rect.unit (s := S1x4096x2048) (k0_off60 c (BitVec.ofNat 32 (128 * ch.val))) S1x4096x128.size (k0_off60_inb c ch)

/-- The program of one chunk's addition. -/
def rmwP (c : Dev nD) (ch : Fin 8) : Prog (TpuEff nD τ sig (Elt F) Λ₀ .tc) PUnit := do
  let v : Vec F S4096x128 .f32 ← Prog.lift (.load oM (rectC ch).toLoadRect (View.loadsAt_vmem h_S4096x128))
  let w : Vec F S1x4096x128 .f32 ← Prog.lift (.load xM (rectX c ch).toLoadRect (View.loadsAt_vmem h_S1x4096x128))
  let _ : Vec F S4096x128 .f32 ← Prog.lift (.load oM (rectC ch).toLoadRect (View.loadsAt_vmem h_S4096x128))
  Prog.lift (.store oM (rectC ch) (payC v w) Finset.univ (View.stores_vmem_bits_univ h_S4096x128 rfl) (.inl rfl))

/-- The program of one operation. -/
def opP (c : Dev nD) : Op → Prog (TpuEff nD τ sig (Elt F) Λ₀ .tc) PUnit
  | .start s ch => startP c s ch
  | .wait s ch => waitP c s ch
  | .rmw ch => rmwP c ch

/-- A list of operations run in order. -/
def runOps (c : Dev nD) : List Op → Prog (TpuEff nD τ sig (Elt F) Λ₀ .tc) PUnit
  | [] => .ret ⟨⟩
  | o :: l => opP c o >>= fun _ => runOps c l

/-- The first sends of chunk `ch`: its part of the own rows to the x neighbour. -/
def opsA (ch : Fin 8) : List Op := [.start 0 ch, .start 1 ch, .start 2 ch]
/-- Chunk `ch` received from the x neighbour and passed on along y and z. -/
def opsB (ch : Fin 8) : List Op :=
  [.wait 0 ch, .start 3 ch, .start 4 ch, .wait 1 ch, .start 5 ch, .start 6 ch, .wait 2 ch, .start 7 ch, .start 10 ch]
/-- Chunk `ch` received along y and z and its halves passed on. -/
def opsC (ch : Fin 8) : List Op := [.wait 3 ch, .start 9 ch, .wait 6 ch, .start 8 ch]
/-- The last waits of chunk `ch` and its addition. -/
def opsD (ch : Fin 8) : List Op := [.wait 5 ch, .wait 4 ch, .wait 7 ch, .wait 10 ch, .wait 8 ch, .wait 9 ch, .rmw ch]

/-- The whole body after the handshake. -/
def prog : List Op :=
  opsA 0 ++ opsA 1 ++ opsA 2 ++ opsA 3 ++ opsA 4 ++ opsA 5 ++ opsA 6 ++ opsA 7 ++
  (opsB 0 ++ opsB 1 ++ opsC 0 ++ opsB 2 ++ opsC 1 ++ opsB 3 ++ opsC 2 ++ opsB 4 ++ opsC 3 ++
   opsB 5 ++ opsC 4 ++ opsB 6 ++ opsC 5 ++ opsB 7 ++ opsC 6 ++ opsC 7) ++
  (opsD 0 ++ opsD 1 ++ opsD 2 ++ opsD 3 ++ opsD 4 ++ opsD 5 ++ opsD 6 ++ opsD 7)

/-- The three neighbours as the handshake computes them. -/
def sigDev (c : Dev nD) : Fin 3 → Dev nD
  | 0 => ⟨k0_dev1 c, k0_dev1_lt c⟩
  | 1 => ⟨k0_dev2 c, k0_dev2_lt c⟩
  | 2 => ⟨k0_dev3 c, k0_dev3_lt c⟩

/-- The body: the handshake with the three neighbours, then the operations. -/
def bodyP : Prog (TpuEff nD τ sig (Elt F) Λ₀ .tc) PUnit := do
  let c : Dev nD ← Prog.lift .deviceId
  semSignalWord (sigDev c 0) barS 1#32
  semSignalWord (sigDev c 1) barS 1#32
  semSignalWord (sigDev c 2) barS 1#32
  semWaitWord barS 3#32
  runOps c prog

set_option maxRecDepth 100000 in
/-- The printed body is `bodyP`. -/
theorem body_eq : cc0_body (F := F) xM (Memref.isWhole_whole _) oM (Memref.isWhole_whole _) cc0_scratch0 cc0_scratch1 = bodyP := by
  rfl

end Cert.MeshSum
-- ==== Proof.Geometry.lean ====
/-
Where the copies land. The 4096 rows of the output buffer are cut into twelve bands; every copy of the kernel covers
one or two of them within one chunk of 128 columns. This module states, as facts on twelve bands, eight devices and
eleven slots, which bands each slot covers on the sender and on the receiver, gives the closed forms of the offsets
and targets, and the element sets and contents that go with them.
-/
module

public import proofs.«01_k».proof.Proof.Ops
public import Idealize.ShloMosaic.Lib.Pipeline.Value

@[expose] public section

noncomputable section

namespace Cert.MeshSum

open Cert.KernelIdeal Cert.KernelIdeal.Gen
open Idealize.ShloMosaic Idealize.SL.Sem
open Idealize.ShloMosaic.TcCoe

variable {F : FTy → Type} [FloatOps F]

/-! ## Devices -/

/-- The neighbour of `c` along axis `d` of the mesh. -/
def nb (d : Fin 3) (c : Dev nD) : Dev nD :=
  match d with
  | 0 => ⟨(c.val + 4) % 8, Nat.mod_lt _ (by decide)⟩
  | 1 => ⟨(4 * (c.val / 4) + (c.val + 2) % 4) % 8, Nat.mod_lt _ (by decide)⟩
  | 2 => ⟨(2 * (c.val / 2) + (c.val + 1) % 2) % 8, Nat.mod_lt _ (by decide)⟩

theorem nb_nb (d : Fin 3) (c : Dev nD) : nb d (nb d c) = c := by revert d c; decide

/-- Crossing along one axis, as a bijection of the devices. -/
def nbE (d : Fin 3) : Dev nD ≃ Dev nD := ⟨nb d, nb d, nb_nb d, nb_nb d⟩

/-- The axis slot `s` sends along. -/
def dir (s : Fin 11) : Fin 3 :=
  match s with | 0 => 0 | 1 => 0 | 2 => 0 | 3 => 1 | 4 => 2 | 5 => 1 | 6 => 2 | 7 => 1 | 8 => 1 | 9 => 2 | 10 => 2

theorem sigDev_eq (d : Fin 3) (c : Dev nD) : sigDev c d = nb d c := by revert d c; decide +kernel
theorem devT_eq (s : Fin 11) (ch : Fin 8) (c : Dev nD) : devT s ch c = nb (dir s) c := by revert s ch c; decide +kernel

/-! ## Bands -/

/-- The band of row `r`: eight bands of 328 rows, then four of 368. -/
def band (r : Fin 4096) : Fin 12 :=
  ⟨if r.val < 2624 then r.val / 328 else 8 + (r.val - 2624) / 368, by have := r.isLt; split <;> omega⟩
/-- The first row of band `b`. -/
def bandRow (b : Fin 12) : Nat := if b.val < 8 then 328 * b.val else 2624 + 368 * (b.val - 8)
/-- How many rows band `b` has. -/
def bandN (b : Fin 12) : Nat := if b.val < 8 then 328 else 368

theorem band_iff (r : Fin 4096) (b : Fin 12) : band r = b ↔ bandRow b ≤ r.val ∧ r.val < bandRow b + bandN b := by
  have hr := r.isLt
  have hb := b.isLt
  rw [Fin.ext_iff]
  unfold band bandRow bandN
  dsimp only
  split <;> split <;> omega

/-- Device `c`'s names for the bands: 0, 1 its own block; 2, 3 its own tail rows; 4, 5 the block of its y neighbour;
6, 7 of its z neighbour; 8, 9 of the device across; 10, 11 the other tail rows. -/
def bd (c : Dev nD) (j : Fin 12) : Fin 12 :=
  let k := c.val % 4
  let p := (c.val / 2 + c.val) % 2
  match j with
  | 0 => ⟨(2 * k) % 12, Nat.mod_lt _ (by decide)⟩
  | 1 => ⟨(2 * k + 1) % 12, Nat.mod_lt _ (by decide)⟩
  | 2 => ⟨(8 + 2 * p) % 12, Nat.mod_lt _ (by decide)⟩
  | 3 => ⟨(9 + 2 * p) % 12, Nat.mod_lt _ (by decide)⟩
  | 4 => ⟨(2 * ((nb 1 c).val % 4)) % 12, Nat.mod_lt _ (by decide)⟩
  | 5 => ⟨(2 * ((nb 1 c).val % 4) + 1) % 12, Nat.mod_lt _ (by decide)⟩
  | 6 => ⟨(2 * ((nb 2 c).val % 4)) % 12, Nat.mod_lt _ (by decide)⟩
  | 7 => ⟨(2 * ((nb 2 c).val % 4) + 1) % 12, Nat.mod_lt _ (by decide)⟩
  | 8 => ⟨(2 * ((nb 1 (nb 2 c)).val % 4)) % 12, Nat.mod_lt _ (by decide)⟩
  | 9 => ⟨(2 * ((nb 1 (nb 2 c)).val % 4) + 1) % 12, Nat.mod_lt _ (by decide)⟩
  | 10 => ⟨(8 + 2 * (1 - p)) % 12, Nat.mod_lt _ (by decide)⟩
  | 11 => ⟨(9 + 2 * (1 - p)) % 12, Nat.mod_lt _ (by decide)⟩

theorem bd_injective (c : Dev nD) : Function.Injective (bd c) := by
  revert c; unfold Function.Injective; decide +kernel

/-- The bands slot `s` covers, by the sender's names, -/
def srcJ (s : Fin 11) : Finset (Fin 12) :=
  match s with | 0 => {0} | 1 => {1} | 2 => {2, 3} | 3 => {0} | 4 => {0} | 5 => {1} | 6 => {1} | 7 => {2} | 8 => {7} | 9 => {4} | 10 => {3}
/-- and by the receiver's. -/
def dstJ (s : Fin 11) : Finset (Fin 12) :=
  match s with | 0 => {0} | 1 => {1} | 2 => {2, 3} | 3 => {4} | 4 => {6} | 5 => {5} | 6 => {7} | 7 => {10} | 8 => {9} | 9 => {8} | 10 => {11}
/-- The first of them, by the sender's names. -/
def firstJ (s : Fin 11) : Fin 12 :=
  match s with | 0 => 0 | 1 => 1 | 2 => 2 | 3 => 0 | 4 => 0 | 5 => 1 | 6 => 1 | 7 => 2 | 8 => 7 | 9 => 4 | 10 => 3

theorem src_dst (s : Fin 11) (c : Dev nD) : (srcJ s).image (bd c) = (dstJ s).image (bd (nb (dir s) c)) := by
  revert s c; decide +kernel

theorem src_single (s : Fin 11) (c : Dev nD) (h : s ≠ 2) :
    (srcJ s).image (bd c) = {bd c (firstJ s)} ∧ bandN (bd c (firstJ s)) = nrow s := by
  revert s c; decide +kernel

theorem src_pair (c : Dev nD) :
    (srcJ 2).image (bd c) = {bd c 2, bd c 3} ∧ bandRow (bd c 3) = bandRow (bd c 2) + 368 ∧ bandN (bd c 2) = 368 ∧ bandN (bd c 3) = 368 := by
  revert c; decide +kernel

/-- The rows of slot `s`'s rectangle are the rows of its bands. -/
theorem slot_rows (s : Fin 11) (c : Dev nD) (r : Fin 4096) :
    band r ∈ (srcJ s).image (bd c) ↔ bandRow (bd c (firstJ s)) ≤ r.val ∧ r.val < bandRow (bd c (firstJ s)) + nrow s := by
  by_cases h : s = 2
  · subst h
    obtain ⟨h1, h2, h3, h4⟩ := src_pair c
    rw [h1, Finset.mem_insert, Finset.mem_singleton, band_iff, band_iff, h2, h3, h4]
    show _ ↔ bandRow (bd c 2) ≤ r.val ∧ r.val < bandRow (bd c 2) + 736
    omega
  · obtain ⟨h1, h2⟩ := src_single s c h
    rw [h1, Finset.mem_singleton, band_iff, h2]

/-! ## Offsets in closed form -/

theorem offO_eq (s : Fin 11) (ch : Fin 8) (c : Dev nD) : offO s ch c = ![bandRow (bd c (firstJ s)), 128 * ch.val] := by
  revert s ch c; decide +kernel

theorem offX_eq (s : Fin 11) (hs : s.val < 3) (ch : Fin 8) (c : Dev nD) :
    offX s ch c = ![0, bandRow (bd c (firstJ s)), 1024 * (1 - c.val / 4) + 128 * ch.val] := by
  revert s ch c; decide +kernel

theorem offR_eq (ch : Fin 8) (c : Dev nD) :
    k0_off60 c (BitVec.ofNat 32 (128 * ch.val)) = ![0, 0, 1024 * (c.val / 4) + 128 * ch.val] := by
  revert ch c; decide +kernel

/-! ## Element sets -/

/-- The rows of the bands `B` within chunk `ch` of the output buffer. -/
def rgn (B : Finset (Fin 12)) (ch : Fin 8) : Finset S4096x1024.Idx :=
  Finset.univ.filter fun i => band (i 0) ∈ B ∧ (i 1).val / 128 = ch.val

/-- The rows of the bands `B` within the columns of chunk `ch` of half `h` of the input buffer. -/
def xrgn (B : Finset (Fin 12)) (h : Nat) (ch : Fin 8) : Finset S1x4096x2048.Idx :=
  Finset.univ.filter fun i => band (i 1) ∈ B ∧ (i 2).val / 128 = 8 * h + ch.val

theorem mem_rgn {B : Finset (Fin 12)} {ch : Fin 8} {i : S4096x1024.Idx} :
    i ∈ rgn B ch ↔ band (i 0) ∈ B ∧ (i 1).val / 128 = ch.val := by simp only [rgn, Finset.mem_filter, Finset.mem_univ, true_and]
theorem mem_xrgn {B : Finset (Fin 12)} {h : Nat} {ch : Fin 8} {i : S1x4096x2048.Idx} :
    i ∈ xrgn B h ch ↔ band (i 1) ∈ B ∧ (i 2).val / 128 = 8 * h + ch.val := by simp only [xrgn, Finset.mem_filter, Finset.mem_univ, true_and]

theorem rgn_disjoint {B B' : Finset (Fin 12)} {ch ch' : Fin 8} (h : Disjoint B B' ∨ ch ≠ ch') : Disjoint (rgn B ch) (rgn B' ch') := by
  rw [Finset.disjoint_left]
  intro i hi hi'
  rw [mem_rgn] at hi hi'
  rcases h with h | h
  · exact Finset.disjoint_left.mp h hi.1 hi'.1
  · exact h (Fin.ext (hi.2.symm.trans hi'.2))

theorem xrgn_disjoint {B B' : Finset (Fin 12)} {n n' : Nat} {ch ch' : Fin 8} (h : Disjoint B B' ∨ n ≠ n' ∨ ch ≠ ch') :
    Disjoint (xrgn B n ch) (xrgn B' n' ch') := by
  rw [Finset.disjoint_left]
  intro i hi hi'
  rw [mem_xrgn] at hi hi'
  have := ch.isLt
  have := ch'.isLt
  rcases h with h | h | h
  · exact Finset.disjoint_left.mp h hi.1 hi'.1
  · exact h (by omega)
  · exact h (Fin.ext (by omega))

theorem rgn_union (B B' : Finset (Fin 12)) (ch : Fin 8) : rgn (B ∪ B') ch = rgn B ch ∪ rgn B' ch := by
  ext i; simp only [mem_rgn, Finset.mem_union]; tauto

theorem rgn_image_biUnion (J : Finset (Fin 12)) (c : Dev nD) (ch : Fin 8) :
    rgn (J.image (bd c)) ch = J.biUnion fun j => rgn {bd c j} ch := by
  ext i
  simp only [mem_rgn, Finset.mem_biUnion, Finset.mem_image, Finset.mem_singleton]
  constructor
  · rintro ⟨⟨j, hj, h⟩, h2⟩; exact ⟨j, hj, h.symm, h2⟩
  · rintro ⟨j, hj, h, h2⟩; exact ⟨⟨j, hj, h.symm⟩, h2⟩

theorem bd_image_univ (c : Dev nD) : (Finset.univ : Finset (Fin 12)).image (bd c) = Finset.univ := by
  revert c; decide +kernel

theorem oV_set (s : Fin 11) (ch : Fin 8) (c : Dev nD) : (oV s ch c).view.set = rgn ((srcJ s).image (bd c)) ch := by
  have h : (oV s ch c).view.set = (Rect.unit (s := S4096x1024) (offO s ch c) (⟨2, ![nrow s, 128]⟩ : Shape).size (inbO s ch c)).set :=
    View.set_slice_whole _ _
  rw [h]
  ext (i : S4096x1024.Idx)
  rw [Rect.mem_set_unit, mem_rgn, offO_eq, Fin.forall_fin_two]
  refine Iff.trans ?_ (and_congr (slot_rows s c (i 0)).symm Iff.rfl)
  show (bandRow (bd c (firstJ s)) ≤ (i 0).val ∧ (i 0).val < bandRow (bd c (firstJ s)) + nrow s) ∧
      (128 * ch.val ≤ (i 1).val ∧ (i 1).val < 128 * ch.val + 128) ↔ _
  omega

theorem xV_set (s : Fin 11) (hs : s.val < 3) (ch : Fin 8) (c : Dev nD) :
    (xV s hs ch c).view.set = xrgn ((srcJ s).image (bd c)) (1 - c.val / 4) ch := by
  have h : (xV s hs ch c).view.set = (Rect.unit (s := S1x4096x2048) (offX s ch c) (⟨3, ![1, nrow s, 128]⟩ : Shape).size (inbX s hs ch c)).set :=
    (View.set_reshape _ _).trans (View.set_slice_whole _ _)
  rw [h]
  ext (i : S1x4096x2048.Idx)
  rw [Rect.mem_set_unit, mem_xrgn, offX_eq s hs]
  refine Iff.trans ?_ (and_congr (slot_rows s c (i 1)).symm Iff.rfl)
  have h0 : (i 0).val < 1 := (i 0).isLt
  constructor
  · intro H
    have h1 := H 1
    have h2 := H 2
    change bandRow (bd c (firstJ s)) ≤ (i 1).val ∧ (i 1).val < bandRow (bd c (firstJ s)) + nrow s at h1
    change 1024 * (1 - c.val / 4) + 128 * ch.val ≤ (i 2).val ∧ (i 2).val < 1024 * (1 - c.val / 4) + 128 * ch.val + 128 at h2
    omega
  · rintro ⟨h1, h2⟩ a
    match a with
    | 0 => exact ⟨Nat.zero_le _, by show (i 0).val < 0 + 1; omega⟩
    | 1 => exact h1
    | 2 =>
      show 1024 * (1 - c.val / 4) + 128 * ch.val ≤ (i 2).val ∧ (i 2).val < 1024 * (1 - c.val / 4) + 128 * ch.val + 128
      omega

theorem rectC_set (ch : Fin 8) : (rectC ch).set = rgn Finset.univ ch := by
  ext (i : S4096x1024.Idx)
  rw [Rect.mem_set_unit, mem_rgn, Fin.forall_fin_two]
  have h0 : (i 0).val < 4096 := (i 0).isLt
  show (0 ≤ (i 0).val ∧ (i 0).val < 0 + 4096) ∧ (128 * ch.val ≤ (i 1).val ∧ (i 1).val < 128 * ch.val + 128) ↔ _
  simp only [Finset.mem_univ, true_and]
  omega

theorem rectX_set (c : Dev nD) (ch : Fin 8) : (rectX c ch).set = xrgn Finset.univ (c.val / 4) ch := by
  ext (i : S1x4096x2048.Idx)
  rw [Rect.mem_set_unit, mem_xrgn, offR_eq]
  have h0 : (i 0).val < 1 := (i 0).isLt
  have h1 : (i 1).val < 4096 := (i 1).isLt
  constructor
  · intro H
    have h2 := H 2
    change 1024 * (c.val / 4) + 128 * ch.val ≤ (i 2).val ∧ (i 2).val < 1024 * (c.val / 4) + 128 * ch.val + 128 at h2
    exact ⟨Finset.mem_univ _, by omega⟩
  · rintro ⟨-, h2⟩ a
    match a with
    | 0 => exact ⟨Nat.zero_le _, by show (i 0).val < 0 + 1; omega⟩
    | 1 => exact ⟨Nat.zero_le _, by show (i 1).val < 0 + 4096; omega⟩
    | 2 =>
      show 1024 * (c.val / 4) + 128 * ch.val ≤ (i 2).val ∧ (i 2).val < 1024 * (c.val / 4) + 128 * ch.val + 128
      omega

/-! ## Contents -/

/-- The device whose input the rows of band `b` of device `c`'s output buffer come from. -/
def srcDev (c : Dev nD) (b : Fin 12) : Dev nD :=
  ⟨(4 * (1 - c.val / 4) + (if b.val < 8 then b.val / 2 else if (b.val - 8) / 2 = (c.val / 2 + c.val) % 2 then c.val % 4
    else if b.val % 2 = 0 then (c.val + 2) % 4 else (nb 2 c).val % 4)) % 8, Nat.mod_lt _ (by decide)⟩

theorem srcDev_hop (s : Fin 11) (hs : ¬ s.val < 3) (c : Dev nD) (b : Fin 12) (hb : b ∈ (srcJ s).image (bd c)) :
    srcDev (nb (dir s) c) b = srcDev c b := by
  revert s c b; decide +kernel
theorem srcDev_first (s : Fin 11) (hs : s.val < 3) (c : Dev nD) (b : Fin 12) (hb : b ∈ (srcJ s).image (bd c)) :
    srcDev (nb (dir s) c) b = c := by
  revert s c b; decide +kernel

theorem half_lt (c : Dev nD) (n : Fin 1024) : 1024 * (c.val / 4) + n.val < 2048 := by
  have : c.val < 8 := c.isLt
  have := n.isLt
  omega

/-- The element of the input at row `r` and column `n` of device `c`'s half. -/
def xAt (c : Dev nD) (r : Fin 4096) (n : Fin 1024) : S1x4096x2048.Idx := fun a =>
  match a with
  | ⟨0, _⟩ => ⟨0, Nat.one_pos⟩
  | ⟨1, _⟩ => r
  | ⟨2, _⟩ => ⟨1024 * (c.val / 4) + n.val, half_lt c n⟩

theorem half_hop (s : Fin 11) (hs : ¬ s.val < 3) (c : Dev nD) : (nb (dir s) c).val / 4 = c.val / 4 := by
  revert s c; decide +kernel
theorem half_first (s : Fin 11) (hs : s.val < 3) (c : Dev nD) : (nb (dir s) c).val / 4 = 1 - c.val / 4 := by
  revert s c; decide +kernel

/-- The contents of a device's input buffer, device by device. -/
abbrev Inputs (F : FTy → Type) := Dev nD → S1x4096x2048.Idx → Elt F .f32

variable (X : Inputs F)

/-- What device `c`'s output buffer holds once everything has arrived: the other half of the mesh's inputs. -/
def landed (c : Dev nD) : S4096x1024.Idx → Elt F .f32 := fun i => X (srcDev c (band (i 0))) (xAt c (i 0) (i 1))

/-- What it holds after the additions: the sum of the input it received and its own. -/
def final (c : Dev nD) : S4096x1024.Idx → Elt F .f32 := fun i =>
  (FloatOps.addf (landed X c i : F .f32) (X c (xAt c (i 0) (i 1)) : F .f32) : F .f32)

omit [FloatOps F] in
/-- A copy between output buffers finds on the sender what the receiver is to hold. -/
theorem landed_hop (s : Fin 11) (hs : ¬ s.val < 3) (ch : Fin 8) (c : Dev nD) (i : S4096x1024.Idx) (hi : i ∈ (oV s ch c).view.set) :
    landed X (nb (dir s) c) i = landed X c i := by
  rw [oV_set] at hi
  have hb := (mem_rgn.mp hi).1
  unfold landed
  rw [srcDev_hop s hs c _ hb]
  refine congrArg (X _) (funext fun a => ?_)
  match a with
  | ⟨0, _⟩ => rfl
  | ⟨1, _⟩ => rfl
  | ⟨2, _⟩ => exact Fin.ext (by
    show 1024 * ((nb (dir s) c).val / 4) + (i 1).val = 1024 * (c.val / 4) + (i 1).val
    rw [half_hop s hs c])

/-- Where slot `s`'s rectangle places an index in the output buffer. -/
def oEmb (s : Fin 11) (ch : Fin 8) (c : Dev nD) (x : (⟨2, ![nrow s, 128]⟩ : Shape).Idx) : S4096x1024.Idx := (oV s ch c).view.emb x

theorem oEmb_val (s : Fin 11) (ch : Fin 8) (c : Dev nD) (x : (⟨2, ![nrow s, 128]⟩ : Shape).Idx) (b : Fin 2) :
    (oEmb s ch c x b).val = offO s ch c b + 1 * (x b).val := rfl

theorem oEmb_mem (s : Fin 11) (ch : Fin 8) (c : Dev nD) (x : (⟨2, ![nrow s, 128]⟩ : Shape).Idx) :
    oEmb s ch c x ∈ rgn ((srcJ s).image (bd c)) ch := by
  have h := (oV s ch c).view.emb_mem_set x
  rw [oV_set] at h
  exact h

theorem xV_emb (s : Fin 11) (hs : s.val < 3) (ch : Fin 8) (c : Dev nD) (x : (⟨2, ![nrow s, 128]⟩ : Shape).Idx) :
    (xV s hs ch c).view.emb x = xAt (nb (dir s) c) (oEmb s ch c x 0) (oEmb s ch c x 1) := by
  have h : (xV s hs ch c).view.emb x = (Rect.unit (s := S1x4096x2048) (offX s ch c) (⟨3, ![1, nrow s, 128]⟩ : Shape).size (inbX s hs ch c)).emb
      (Fin.cons ⟨0, Nat.one_pos⟩ x) := by
    show (Rect.unit (s := S1x4096x2048) (offX s ch c) (⟨3, ![1, nrow s, 128]⟩ : Shape).size (inbX s hs ch c)).emb (Shape.reshapeEquiv _ x) = _
    rw [Shape.reshapeEquiv_cons_one]
  rw [h]
  funext a
  refine Fin.ext ?_
  rw [Rect.emb_apply]
  show offX s ch c a + 1 * (Fin.cons (α := fun a => Fin ((⟨3, ![1, nrow s, 128]⟩ : Shape).size a)) ⟨0, Nat.one_pos⟩ x a).val = _
  have hO := oEmb_val s ch c x
  have hX := congrFun (offX_eq s hs ch c) a
  rw [hX]
  match a with
  | ⟨0, _⟩ => rfl
  | ⟨1, _⟩ =>
    have := hO 0
    rw [offO_eq] at this
    exact this.symm
  | ⟨2, _⟩ =>
    have := hO 1
    rw [offO_eq] at this
    show 1024 * (1 - c.val / 4) + 128 * ch.val + 1 * (x 1).val = 1024 * ((nb (dir s) c).val / 4) + (oEmb s ch c x 1).val
    rw [this, half_first s hs]
    show _ = _ + (128 * ch.val + 1 * (x 1).val)
    omega

omit [FloatOps F] in
/-- A copy out of an input buffer finds there what the receiver is to hold. -/
theorem landed_first (s : Fin 11) (hs : s.val < 3) (ch : Fin 8) (c : Dev nD) (x : (⟨2, ![nrow s, 128]⟩ : Shape).Idx) :
    landed X (nb (dir s) c) (oEmb s ch c x) = X c ((xV s hs ch c).view.emb x) := by
  rw [xV_emb]
  unfold landed
  rw [srcDev_first s hs c _ (mem_rgn.mp (oEmb_mem s ch c x)).1]

end Cert.MeshSum
-- ==== Proof.Protocol.lean ====
/-
The protocol the devices talk by: one barrier cell per device and, for each slot and chunk, one send cell and one
receive cell per device. This module names the cells, says what each signal hands over, what a device owes when it
starts and in which order the waits may happen.
-/
module

public import proofs.«01_k».proof.Proof.Geometry
public import Idealize.ShloMosaic.Lib.Pipeline.Launch
public import Idealize.ShloMosaic.Lib.Pipeline.Kit
public import Idealize.ShloMosaic.Lib.Tactic

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the protocol: its rounds, with three names for the duties of a cell. -/
abbrev UB : Type := URounds (GSem nD τ sig) (Fin 3)
/-- The pipeline's ghost state beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A copy's semaphore: of which kind (`false` the send, `true` the receive), slot and chunk. -/
abbrev XKey : Type := Bool × Fin 11 × Fin 8
/-- A semaphore of the protocol: a copy's, or the barrier. -/
abbrev Key : Type := Option XKey

/-- The semaphore of a copy. -/
def osem : XKey → SemLoc sig
  | (false, s, ch) => .dma (sSem s ch)
  | (true, s, ch) => .dma (rSem s ch)
/-- The semaphore of a key. -/
def csem : Key → SemLoc sig
  | none => .reg barS
  | some k => osem k

abbrev barCell (c : Dev nD) : GSem nD τ sig := ((c : Thread nD τ), .reg barS)
abbrev sCell (c : Dev nD) (s : Fin 11) (ch : Fin 8) : GSem nD τ sig := ((c : Thread nD τ), .dma (sSem s ch))
abbrev rCell (c : Dev nD) (s : Fin 11) (ch : Fin 8) : GSem nD τ sig := ((c : Thread nD τ), .dma (rSem s ch))
/-- The cell of a key on a device. -/
def kcell (ck : Dev nD × Key) : GSem nD τ sig := ((ck.1 : Thread nD τ), csem ck.2)

/-- The key of a semaphore, where it has one. -/
def dec : SemLoc sig → Option Key
  | .reg _ => some none
  | .dma q => if q.val < 2 then none
    else some (some (decide (90 ≤ q.val), ⟨(q.val - 2) % 88 / 8, by omega⟩, ⟨(q.val - 2) % 8, by omega⟩))

theorem sSem_val (s : Fin 11) (ch : Fin 8) : (sSem s ch).val = 2 + 8 * s.val + ch.val := by
  revert s ch; decide +kernel
theorem rSem_val (s : Fin 11) (ch : Fin 8) : (rSem s ch).val = 90 + 8 * s.val + ch.val := by
  revert s ch; decide +kernel

theorem dec_send (s : Fin 11) (ch : Fin 8) : dec (.dma (sSem s ch)) = some (some (false, s, ch)) := by
  have h := sSem_val s ch
  have := s.isLt; have := ch.isLt
  unfold dec
  dsimp only
  rw [if_neg (by omega)]
  refine congrArg (fun x => some (some x)) (Prod.ext (decide_eq_false (by omega)) (Prod.ext (Fin.ext ?_) (Fin.ext ?_)))
  · show ((sSem s ch).val - 2) % 88 / 8 = s.val; omega
  · show ((sSem s ch).val - 2) % 8 = ch.val; omega

theorem dec_recv (s : Fin 11) (ch : Fin 8) : dec (.dma (rSem s ch)) = some (some (true, s, ch)) := by
  have h := rSem_val s ch
  have := s.isLt; have := ch.isLt
  unfold dec
  dsimp only
  rw [if_neg (by omega)]
  refine congrArg (fun x => some (some x)) (Prod.ext (decide_eq_true (by omega)) (Prod.ext (Fin.ext ?_) (Fin.ext ?_)))
  · show ((rSem s ch).val - 2) % 88 / 8 = s.val; omega
  · show ((rSem s ch).val - 2) % 8 = ch.val; omega

theorem dec_bar : dec (.reg barS) = some none := rfl

theorem dec_osem (k : XKey) : dec (osem k) = some (some k) := by
  obtain ⟨b, s, ch⟩ := k
  cases b
  · exact dec_send s ch
  · exact dec_recv s ch
theorem dec_csem (k : Key) : dec (csem k) = some k := by
  cases k with
  | none => rfl
  | some k => exact dec_osem k

theorem osem_injective : Function.Injective osem := fun a b h => by
  have := congrArg dec h
  rw [dec_osem, dec_osem] at this
  exact Option.some.inj (Option.some.inj this)
theorem csem_injective : Function.Injective csem := fun a b h => by
  have := congrArg dec h
  rw [dec_csem, dec_csem] at this
  exact Option.some.inj this
theorem kcell_injective : Function.Injective (kcell : Dev nD × Key → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-! ## Assertions -/

/-- The credit of one copy of slot `s`. -/
def credN (s : Fin 11) : ℕ := RefSig.tileCredit (⟨2, ![nrow s, 128]⟩ : Shape) .f32

theorem credN_pos (s : Fin 11) : 0 < credN s := by revert s; decide

theorem oV_credit (s : Fin 11) (ch : Fin 8) (c : Dev nD) : (oV s ch c).view.dmaCredit = credN s := rfl
theorem srcV_credit (s : Fin 11) (ch : Fin 8) (c : Dev nD) : (srcV s ch c).view.dmaCredit = credN s := rfl

/-- Elements `I` of device `c`'s output buffer at share `q`, holding `f`. -/
def oPts (c : Dev nD) (I : Finset S4096x1024.Idx) (q : PosShare TreeShare) (f : S4096x1024.Idx → Elt F .f32) : sProp 𝕄 :=
  ((c : Thread nD τ).loc cc0_stg1_0) ↦[I]{q} f
/-- Elements `I` of device `c`'s input buffer, holding `f`. -/
def xPts (c : Dev nD) (I : Finset S1x4096x2048.Idx) (f : S1x4096x2048.Idx → Elt F .f32) : sProp 𝕄 :=
  ((c : Thread nD τ).loc cc0_stg0_0) ↦[I]{fullShare} f

omit [FloatOps F] in
instance oPts_storable (c : Dev nD) (I q f) : BI.Storable (upEmb : UEmb _ 𝕄) (oPts (F := F) c I q f) := by unfold oPts; infer_instance
omit [FloatOps F] in
instance xPts_storable (c : Dev nD) (I f) : BI.Storable (upEmb : UEmb _ 𝕄) (xPts (F := F) c I f) := by unfold xPts; infer_instance

/-- The share of its source a send of slot `s` takes: two sends read the same rows at once in slots 3 to 6. -/
def shr (s : Fin 11) : PosShare TreeShare :=
  match s with | 3 => fullShare.left | 4 => fullShare.right | 5 => fullShare.left | 6 => fullShare.right | _ => fullShare

variable (X : Inputs F)

/-- What a send of slot `s` reads on device `c`. -/
def srcPts (c : Dev nD) (s : Fin 11) (ch : Fin 8) : sProp 𝕄 :=
  if s.val < 3 then xPts c (xrgn ((srcJ s).image (bd c)) (1 - c.val / 4) ch) (X c)
  else oPts c (rgn ((srcJ s).image (bd c)) ch) (shr s) (landed X c)
/-- What it leaves on the receiver `c`. -/
def dstPts (c : Dev nD) (s : Fin 11) (ch : Fin 8) : sProp 𝕄 :=
  oPts c (rgn ((dstJ s).image (bd c)) ch) fullShare (landed X c)
/-- The place on device `c` slot `s` lands in, before it has landed. -/
def holePts (c : Dev nD) (s : Fin 11) (ch : Fin 8) : sProp 𝕄 :=
  iprop(∃ f, oPts c (rgn ((dstJ s).image (bd c)) ch) fullShare f)

/-- The copies sent along axis `d`. -/
def along (d : Fin 3) : Finset (Fin 11 × Fin 8) := Finset.univ.filter fun sc => dir sc.1 = d

/-- What the neighbour of `c` along axis `d` hands over by its barrier signal: the places in its output buffer that
`c`'s copies along that axis land in. -/
def barPay (c : Dev nD) (d : Fin 3) : sProp 𝕄 := bigSep (along d) fun sc => holePts (nb d c) sc.1 sc.2

omit [FloatOps F] in
instance srcPts_storable (c : Dev nD) (s ch) : BI.Storable (upEmb : UEmb _ 𝕄) (srcPts X c s ch) := by
  unfold srcPts; split <;> infer_instance
omit [FloatOps F] in
instance dstPts_storable (c : Dev nD) (s ch) : BI.Storable (upEmb : UEmb _ 𝕄) (dstPts X c s ch) := by
  unfold dstPts; infer_instance
omit [FloatOps F] in
instance barPay_storable (c : Dev nD) (d : Fin 3) : BI.Storable (upEmb : UEmb _ 𝕄) (barPay (F := F) c d) := by
  unfold barPay holePts; infer_instance

/-! ## The schedule -/

/-- One round: a barrier cell has a duty for each neighbour, a copy's cell one duty of the copy's credit. -/
def rd : Rounds.Schedule (GSem nD τ sig) (Fin 3) 𝕄 where
  duties g r := if r = 0 ∧ g.1.2 = .tc then
      match dec g.2 with | none => ∅ | some none => Finset.univ | some (some _) => {0}
    else ∅
  unitless _ := False
  amount g _ _ := match dec g.2 with | some (some k) => credN k.2.1 | _ => 1
  payload g _ d := match dec g.2 with
    | none => iprop(emp)
    | some none => barPay g.1.1 d
    | some (some (false, s, ch)) => srcPts X g.1.1 s ch
    | some (some (true, s, ch)) => dstPts X g.1.1 s ch
  amount_pos g _ _ _ := by
    rcases dec g.2 with _ | _ | k
    · exact Nat.one_pos
    · exact Nat.one_pos
    · exact credN_pos _

omit [FloatOps F] in
instance rd_payload_storable (g : GSem nD τ sig) (r : ℕ) (d : Fin 3) :
    BI.Storable (upEmb : UEmb _ 𝕄) ((rd X).payload g r d) := by
  dsimp only [rd]
  rcases dec g.2 with _ | _ | ⟨_ | _, s, ch⟩ <;> infer_instance

section Sched
variable (c : Dev nD) (s : Fin 11) (ch : Fin 8)

omit [FloatOps F] in
theorem duties_bar : (rd X).duties (barCell c) 0 = Finset.univ := by dsimp only [rd]; rw [if_pos ⟨rfl, rfl⟩]; rfl
omit [FloatOps F] in
theorem duties_send : (rd X).duties (sCell c s ch) 0 = {0} := by dsimp only [rd]; rw [if_pos ⟨rfl, rfl⟩, dec_send]
omit [FloatOps F] in
theorem duties_recv : (rd X).duties (rCell c s ch) 0 = {0} := by dsimp only [rd]; rw [if_pos ⟨rfl, rfl⟩, dec_recv]
omit [FloatOps F] in
theorem duties_later (g : GSem nD τ sig) : ∀ r, 1 ≤ r → (rd X).duties g r = ∅ :=
  fun r hr => by dsimp only [rd]; rw [if_neg fun h => by omega]

omit [FloatOps F] in
theorem amount_bar (d : Fin 3) : (rd X).amount (barCell c) 0 d = 1 := rfl
omit [FloatOps F] in
theorem amount_send (d : Fin 3) : (rd X).amount (sCell c s ch) 0 d = credN s := by dsimp only [rd]; rw [dec_send]
omit [FloatOps F] in
theorem amount_recv (d : Fin 3) : (rd X).amount (rCell c s ch) 0 d = credN s := by dsimp only [rd]; rw [dec_recv]

omit [FloatOps F] in
theorem expect_bar : (rd X).expect (barCell c) 0 = 3 := by
  unfold Schedule.expect Schedule.amountOf
  rw [duties_bar, Finset.sum_congr rfl fun d _ => amount_bar X c d]; rfl
omit [FloatOps F] in
theorem expect_send : (rd X).expect (sCell c s ch) 0 = credN s := by
  unfold Schedule.expect Schedule.amountOf; rw [duties_send, Finset.sum_singleton, amount_send]
omit [FloatOps F] in
theorem expect_recv : (rd X).expect (rCell c s ch) 0 = credN s := by
  unfold Schedule.expect Schedule.amountOf; rw [duties_recv, Finset.sum_singleton, amount_recv]

omit [FloatOps F] in
theorem payload_bar (d : Fin 3) : (rd X).payload (barCell c) 0 d = barPay c d := rfl
omit [FloatOps F] in
theorem payload_send (d : Fin 3) : (rd X).payload (sCell c s ch) 0 d = srcPts X c s ch := by dsimp only [rd]; rw [dec_send]
omit [FloatOps F] in
theorem payload_recv (d : Fin 3) : (rd X).payload (rCell c s ch) 0 d = dstPts X c s ch := by dsimp only [rd]; rw [dec_recv]

omit [FloatOps F] in
/-- A barrier's round hands over what the three neighbours give. -/
theorem rest_bar : bigSep ((rd X).duties (barCell c) 0 \ ∅) (fun d => (rd X).payload (barCell c) 0 d) = bigSep Finset.univ fun d => barPay c d := by
  rw [Finset.sdiff_empty, duties_bar]; rfl
omit [FloatOps F] in
theorem rest_send : bigSep ((rd X).duties (sCell c s ch) 0 \ ∅) (fun d => (rd X).payload (sCell c s ch) 0 d) = srcPts X c s ch := by
  rw [Finset.sdiff_empty, duties_send, bigSep_singleton, payload_send]
omit [FloatOps F] in
theorem rest_recv : bigSep ((rd X).duties (rCell c s ch) 0 \ ∅) (fun d => (rd X).payload (rCell c s ch) 0 d) = dstPts X c s ch := by
  rw [Finset.sdiff_empty, duties_recv, bigSep_singleton, payload_recv]

end Sched

/-! ## Levels -/

/-- The level of the receive cell of slot `s`, chunk `ch`: a device waits on one only while it owes higher ones. -/
def lvR (s : Fin 11) (ch : Fin 8) : ℕ :=
  match s with | 0 => 2 | 1 => 2 | 2 => 2 | 8 => 20 | 9 => 20 | _ => 3 + ch.val

theorem lvR_ge (s : Fin 11) (ch : Fin 8) : 2 ≤ lvR s ch := by revert s ch; decide

/-- Every cell of a tensor core has one token kind. -/
def L (g : GSem nD τ sig) : Finset Unit := if g.1.2 = .tc then {()} else ∅
/-- Barrier cells at 1, receive cells above, everything else at 0. -/
def lv (g : GSem nD τ sig) (_ : Unit) : ℕ :=
  match dec g.2 with | some none => 1 | some (some (true, s, ch)) => lvR s ch | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_send (c : Dev nD) (s : Fin 11) (ch : Fin 8) (u : Unit) : lv (sCell c s ch) u = 0 := by unfold lv; rw [dec_send]
theorem lv_recv (c : Dev nD) (s : Fin 11) (ch : Fin 8) (u : Unit) : lv (rCell c s ch) u = lvR s ch := by unfold lv; rw [dec_recv]

/-- A wait is allowed while everything owed lies strictly above it. -/
theorem mayWait_of_above (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.MeshSum
-- ==== Proof.Steps.lean ====
/-
One operation of the body at a time. What a device holds between two operations is a list of pieces (`Atom`); each
operation takes some of them and gives others. This module states the pieces, proves one rule per kind of operation
and joins them into one theorem about a run of operations that a check on lists accepts.
-/
module

public import proofs.«01_k».proof.Proof.Protocol
public import Idealize.ShloMosaic.Lib.Pipeline.BigSepL

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Pieces -/

/-- What a device may hold between two operations. -/
inductive Atom where
  /-- The part of the input that slot `s` sends in chunk `ch`. -/
  | x (s : Fin 11) (ch : Fin 8)
  /-- The rest of the input. -/
  | xr
  /-- Band `j` of chunk `ch` of the output, arrived, at the full share (`q` = 0) or one of its halves. -/
  | blk (j : Fin 12) (q : Fin 3) (ch : Fin 8)
  /-- The place a copy is to land in, and the right to start it. -/
  | tgt (s : Fin 11) (ch : Fin 8)
  /-- A copy on its way. -/
  | sent (s : Fin 11) (ch : Fin 8)
  /-- A copy expected. -/
  | due (s : Fin 11) (ch : Fin 8)
  /-- Both semaphores of a copy, at zero. -/
  | z (s : Fin 11) (ch : Fin 8)
  /-- Chunk `ch` of the output, added. -/
  | out (ch : Fin 8)
deriving DecidableEq

/-- The share a band is held at. -/
def shq (q : Fin 3) : PosShare TreeShare := match q with | 0 => fullShare | 1 => fullShare.left | 2 => fullShare.right

/-- The parts of device `c`'s input buffer that are sent. -/
def lent (c : Dev nD) : Finset S1x4096x2048.Idx :=
  (Finset.univ.filter fun sc : Fin 11 × Fin 8 => sc.1.val < 3).biUnion fun sc => xrgn ((srcJ sc.1).image (bd c)) (1 - c.val / 4) sc.2

variable (X : Inputs F)

/-- What a piece says on device `c`. -/
def den (c : Dev nD) : Atom → sProp 𝕄
  | .x s ch => xPts c (xrgn ((srcJ s).image (bd c)) (1 - c.val / 4) ch) (X c)
  | .xr => xPts c (Finset.univ \ lent c) (X c)
  | .blk j q ch => oPts c (rgn {bd c j} ch) (shq q) (landed X c)
  | .tgt s ch => iprop(holePts (nb (dir s) c) s ch ∗ dutyTok ER (sCell c s ch) 0 0 ∗ dutyTok ER (rCell (nb (dir s) c) s ch) 0 0
      ∗ atPos ER (sCell c s ch) 0 ∅ 0)
  | .sent s ch => iprop(cred (tallyAt (sCell c s ch) () (credN s)) ∗ atPos ER (sCell c s ch) 0 ∅ 0)
  | .due s ch => iprop(cred (tallyAt (rCell c s ch) () (credN s)) ∗ atPos ER (rCell c s ch) 0 ∅ 0)
  | .z s ch => iprop(semVal (sCell c s ch) 0 ∗ semVal (rCell c s ch) 0)
  | .out ch => oPts c (rgn Finset.univ ch) fullShare (final X c)

/-- What a device owes for a copy it has not started: the receiver's credit. -/
def owe (c : Dev nD) : Atom → CellTallies nD τ sig Unit
  | .tgt s ch => tallyAt (rCell (nb (dir s) c) s ch) () (credN s)
  | _ => 0

/-- What it owes in all. -/
def oweL (c : Dev nD) (S : List Atom) : CellTallies nD τ sig Unit := (S.map (owe c)).sum

/-- The facts shared by all devices: every cell's invariant, under the names `K`, and that its round 0 is reached. -/
def records (K : Dev nD × Key → ℕ) : sProp 𝕄 :=
  iprop((bigSep Finset.univ fun ck : Dev nD × Key => cellInv ER (rd X) (K ck) (kcell ck))
    ∗ bigSep Finset.univ fun ck : Dev nD × Key => reached ER (kcell ck) 0)

omit [FloatOps F] in
instance records_persistent (K : Dev nD × Key → ℕ) : BI.Persistent (records X K) := by unfold records; infer_instance

omit [FloatOps F] in
theorem records_inv (K : Dev nD × Key → ℕ) (ck : Dev nD × Key) : records X K ⊢ cellInv ER (rd X) (K ck) (kcell ck) := by
  unfold records
  exact sep_elim_left.trans (bigSep_elim (Φ := fun ck : Dev nD × Key => cellInv ER (rd X) (K ck) (kcell ck)) (Finset.mem_univ ck))
omit [FloatOps F] in
theorem records_reached (K : Dev nD × Key → ℕ) (ck : Dev nD × Key) : records X K ⊢ reached ER (kcell ck) 0 := by
  unfold records
  exact sep_elim_right.trans (bigSep_elim (Φ := fun ck : Dev nD × Key => reached ER (kcell ck) 0) (Finset.mem_univ ck))

/-! ## The pieces of a copy -/

/-- The piece slot `s` reads. -/
def srcA (s : Fin 11) (ch : Fin 8) : Atom :=
  match s with
  | 0 => .x 0 ch | 1 => .x 1 ch | 2 => .x 2 ch
  | 3 => .blk 0 1 ch | 4 => .blk 0 2 ch | 5 => .blk 1 1 ch | 6 => .blk 1 2 ch
  | 7 => .blk 2 0 ch | 8 => .blk 7 0 ch | 9 => .blk 4 0 ch | 10 => .blk 3 0 ch
/-- The pieces that arrive by slot `s`. -/
def dstA (s : Fin 11) (ch : Fin 8) : List Atom :=
  match s with
  | 0 => [.blk 0 1 ch, .blk 0 2 ch] | 1 => [.blk 1 1 ch, .blk 1 2 ch] | 2 => [.blk 2 0 ch, .blk 3 0 ch]
  | 3 => [.blk 4 0 ch] | 4 => [.blk 6 0 ch] | 5 => [.blk 5 0 ch] | 6 => [.blk 7 0 ch]
  | 7 => [.blk 10 0 ch] | 8 => [.blk 9 0 ch] | 9 => [.blk 8 0 ch] | 10 => [.blk 11 0 ch]
/-- The pieces of one chunk of the output once everything has arrived. -/
def blks (ch : Fin 8) : List Atom :=
  [.blk 0 1 ch, .blk 0 2 ch, .blk 1 1 ch, .blk 1 2 ch, .blk 2 0 ch, .blk 3 0 ch, .blk 4 0 ch, .blk 5 0 ch, .blk 6 0 ch, .blk 7 0 ch,
    .blk 8 0 ch, .blk 9 0 ch, .blk 10 0 ch, .blk 11 0 ch]

theorem den_srcA (c : Dev nD) (s : Fin 11) (ch : Fin 8) : den X c (srcA s ch) = srcPts X c s ch := by
  fin_cases s <;> rfl

omit [FloatOps F] in
theorem oPts_halves (c : Dev nD) (I : Finset S4096x1024.Idx) (f : S4096x1024.Idx → Elt F .f32) :
    oPts c I fullShare f ⊣⊢ iprop(oPts c I fullShare.left f ∗ oPts c I fullShare.right f) := by
  unfold oPts
  exact pointsTo_share (PosShare.mem_left_op_right fullShare)

omit [FloatOps F] in
theorem oPts_bands (c : Dev nD) (J : Finset (Fin 12)) (ch : Fin 8) (q : PosShare TreeShare) (f : S4096x1024.Idx → Elt F .f32) :
    oPts c (rgn (J.image (bd c)) ch) q f = bigSep J fun j => oPts c (rgn {bd c j} ch) q f := by
  rw [rgn_image_biUnion]
  unfold oPts
  refine pointsTo_biUnion J _ fun j _ j' _ h => rgn_disjoint (.inl ?_)
  rw [Finset.disjoint_singleton]
  exact fun h' => h (bd_injective c h')

theorem dst_split (c : Dev nD) (s : Fin 11) (ch : Fin 8) : dstPts X c s ch ⊢ bigSepL (dstA s ch) (den X c) := by
  unfold dstPts
  by_cases h : s.val < 2
  · have hs : s = 0 ∨ s = 1 := by omega
    rcases hs with rfl | rfl
    · exact (oPts_halves c _ _).1
    · exact (oPts_halves c _ _).1
  · rw [oPts_bands]
    by_cases h2 : s = 2
    · subst h2
      rw [show dstJ 2 = insert 2 {3} from rfl, bigSep_insert (by decide), bigSep_singleton]
      exact .rfl
    · fin_cases s <;> first | exact absurd (by decide) h | exact absurd rfl h2 | skip
      all_goals exact Entails.of_eq bigSep_singleton

theorem blks_join (c : Dev nD) (ch : Fin 8) : bigSepL (blks ch) (den X c) ⊢ oPts c (rgn Finset.univ ch) fullShare (landed X c) := by
  rw [← bd_image_univ c, oPts_bands, bigSep_univ_eq_bigSepL [0, 1, 2, 3, 4, 5, 6, 7, 8, 9, 10, 11] (by decide) (by decide)]
  unfold blks
  simp only [bigSepL_cons', den, shq]
  iintro ⟨H0, H0', H1, H1', Hr⟩
  isplitl [H0 H0']
  · iapply (oPts_halves c _ _).2
    isplitl [H0]; · iexact H0
    iexact H0'
  isplitl [H1 H1']
  · iapply (oPts_halves c _ _).2
    isplitl [H1]; · iexact H1
    iexact H1'
  iexact Hr

/-! ## Starting a copy -/

theorem oV_set_dst (s : Fin 11) (ch : Fin 8) (c : Dev nD) :
    (oV s ch c).view.set = rgn ((dstJ s).image (bd (nb (dir s) c))) ch := (oV_set s ch c).trans (by rw [src_dst])

omit [FloatOps F] in
/-- What slot `s` sends lies in the view it sends from, and is what the receiver is to hold. -/
theorem src_view (s : Fin 11) (ch : Fin 8) (c : Dev nD) :
    ∃ (q : PosShare TreeShare) (fs : Buf (Elt F) ((srcV s ch c).view.loc (c : Thread nD τ))),
      (srcPts X c s ch : sProp 𝕄) = ((srcV s ch c).view.loc (c : Thread nD τ) ↦[(srcV s ch c).view.set]{q} fs)
      ∧ ∀ x, (srcV s ch c).view.read (Elt F) fs x = landed X (nb (dir s) c) (oEmb s ch c x) := by
  by_cases hs : s.val < 3
  · have hv : srcV s ch c = xV s hs ch c := dif_pos hs
    rw [hv]
    refine ⟨fullShare, X c, ?_, fun x => (landed_first X s hs ch c x).symm⟩
    unfold srcPts
    rw [if_pos hs]
    exact congrArg (fun I => (xPts c I (X c) : sProp 𝕄)) (xV_set s hs ch c).symm
  · have hv : srcV s ch c = oV s ch c := dif_neg hs
    rw [hv]
    refine ⟨shr s, landed X c, ?_, fun x => (landed_hop X s hs ch c _ ((oV s ch c).view.emb_mem_set x)).symm⟩
    unfold srcPts
    rw [if_neg hs]
    exact congrArg (fun I => (oPts c I (shr s) (landed X c) : sProp 𝕄)) (oV_set s ch c).symm

omit [FloatOps F] in
/-- A landed copy is what the receiver is to hold. -/
theorem landed_pay (s : Fin 11) (ch : Fin 8) (c : Dev nD) (fd : S4096x1024.Idx → Elt F .f32)
    (v : (⟨2, ![nrow s, 128]⟩ : Shape).Idx → Elt F .f32) (hv : ∀ x, v x = landed X (nb (dir s) c) (oEmb s ch c x)) :
    ((oV s ch c).view.loc (nb (dir s) c : Thread nD τ) ↦[(oV s ch c).view.set]{fullShare} ((oV s ch c).view.write (Elt F) fd v Finset.univ))
      ⊢ (dstPts X (nb (dir s) c) s ch : sProp 𝕄) := by
  have h1 := oV_set_dst s ch c
  have h2 : (dstPts X (nb (dir s) c) s ch : sProp 𝕄) = oPts (nb (dir s) c) (oV s ch c).view.set fullShare (landed X (nb (dir s) c)) := by
    unfold dstPts; exact congrArg (fun I => (oPts (nb (dir s) c) I fullShare (landed X (nb (dir s) c)) : sProp 𝕄)) h1.symm
  rw [h2]
  unfold oPts
  refine Entails.of_eq (pointsTo_congr fun i hi => ?_)
  obtain ⟨x, -, rfl⟩ := Finset.mem_map.mp hi
  exact (View.write_emb_of_mem (v := (oV s ch c).view) fd v (Finset.mem_univ x)).trans (hv x)

omit [FloatOps F] in
/-- The place a copy lands in is the view it is sent to. -/
theorem dst_hole (s : Fin 11) (ch : Fin 8) (c : Dev nD) (fd : S4096x1024.Idx → Elt F .f32) :
    (oPts (nb (dir s) c) (rgn ((dstJ s).image (bd (nb (dir s) c))) ch) fullShare fd : sProp 𝕄)
      ⊢ ((oV s ch c).view.loc (nb (dir s) c : Thread nD τ) ↦[(oV s ch c).view.set]{fullShare} fd) :=
  Entails.of_eq (congrArg (fun I => (oPts (nb (dir s) c) I fullShare fd : sProp 𝕄)) (oV_set_dst s ch c).symm)

/-- The rule of a start, the receiver named by any expression equal to the neighbour. -/
theorem wp_start_at (K : Dev nD × Key → ℕ) (c n : Dev nD) (s : Fin 11) (ch : Fin 8) (hn : n = nb (dir s) c)
    {hsc : (oV s ch c : Memref sig (Dev.tc n : Thread nD τ).2.kind .vmem ⟨2, ![nrow s, 128]⟩ .f32).view.ref.isScScratch = false}
    {hsrc : (srcV s ch c).view.WordExact} {hdst : (oV s ch c).view.WordExact}
    {hsem : DmaTarget.Typed .vmem (.dma (rSem s ch))
      (.remote (Dev.tc n : Thread nD τ) (oV s ch c : Memref sig .tc .vmem ⟨2, ![nrow s, 128]⟩ .f32) (.dma (sSem s ch)) hsc)}
    (O : CellTallies nD τ sig Unit) (W : Waits sig Unit)
    {α : Type} {Q : α → sProp 𝕄} {k : PUnit → Prog (TpuEff nD τ sig (Elt F) Λ₀ .tc) α} :
    iprop(records X K ∗ den X c (.tgt s ch) ∗ den X c (srcA s ch) ∗ owes (c : Thread nD τ) (O + owe c (.tgt s ch)) W)
      ⊢ iprop(((den X c (.sent s ch) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcV s ch c) (.remote (Dev.tc n : Thread nD τ) (oV s ch c) (.dma (sSem s ch)) hsc) (.dma (rSem s ch)) hsrc hdst hsem) k) Q) := by
  subst hn
  obtain ⟨q, fs, h1, h2⟩ := src_view X s ch c
  rw [den_srcA, h1]
  dsimp only [den, owe]
  unfold holePts
  iintro ⟨#HR, ⟨⟨%fd, Hd⟩, Ht1, Ht2, Hat⟩, Hs, HO⟩ Hk
  iapply (Rounds.wp_send_pointsTo 𝒱₀ ER (rd X) (c : Thread nD τ) none (κ₁ := K (c, some (false, s, ch))) (κ₂ := K (nb (dir s) c, some (true, s, ch)))
    (r₁ := 0) (r₂ := 0) (d₁ := 0) (d₂ := 0) (fd := fd) (fs := fs) (q := q)
    (by rw [duties_send]; exact Finset.mem_singleton_self _) (by rw [duties_recv]; exact Finset.mem_singleton_self _)
    () () (credN s) rfl (amount_send X c s ch 0) (amount_recv X (nb (dir s) c) s ch 0) O rfl (W := W)
    (by rw [payload_send, h1])
    (by rw [payload_recv]; exact landed_pay X s ch c fd _ h2)) $$ [Hd Ht1 Ht2 Hs HO]
  · isplitr; · iapply (records_inv X K (c, some (false, s, ch))); iexact HR
    isplitr; · iapply (records_inv X K (nb (dir s) c, some (true, s, ch))); iexact HR
    isplitl [Hs]; · iexact Hs
    isplitl [Hd]
    · iapply (dst_hole s ch c fd); iexact Hd
    isplitl [HO]; · iexact HO
    isplitl [Ht1]; · iexact Ht1
    isplitr; · iapply (records_reached X K (c, some (false, s, ch))); iexact HR
    isplitl [Ht2]; · iexact Ht2
    iapply (records_reached X K (nb (dir s) c, some (true, s, ch))); iexact HR
  iintro ⟨Hc, HO⟩
  iapply Hk
  isplitl [Hc Hat]
  · isplitl [Hc] <;> iassumption
  iexact HO

/-- The rule of a start: the place and the source go, the credit to wait for comes. -/
theorem wp_start (K : Dev nD × Key → ℕ) (c : Dev nD) (s : Fin 11) (ch : Fin 8) (O : CellTallies nD τ sig Unit) (W : Waits sig Unit)
    {α : Type} {Q : α → sProp 𝕄} {k : PUnit → Prog (TpuEff nD τ sig (Elt F) Λ₀ .tc) α} :
    iprop(records X K ∗ den X c (.tgt s ch) ∗ den X c (srcA s ch) ∗ owes (c : Thread nD τ) (O + owe c (.tgt s ch)) W)
      ⊢ iprop(((den X c (.sent s ch) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (startP c s ch >>= k) Q) :=
  wp_start_at X K c (devT s ch c) s ch (devT_eq s ch c) O W

/-! ## Waiting for a copy -/

/-- The rule of a wait: the source comes back, what arrived comes, and both cells close. -/
theorem wp_wait (K : Dev nD × Key → ℕ) (c : Dev nD) (s : Fin 11) (ch : Fin 8) (O : CellTallies nD τ sig Unit) (W : Waits sig Unit)
    (hO : ∀ g u, 0 < O g u → g.1.2 = .tc ∧ lvR s ch < lv g ())
    {α : Type} {Q : α → sProp 𝕄} {k : PUnit → Prog (TpuEff nD τ sig (Elt F) Λ₀ .tc) α} :
    iprop((records X K ∗ levAts L lv) ∗ den X c (.sent s ch) ∗ den X c (.due s ch) ∗ owes (c : Thread nD τ) O W)
      ⊢ iprop(((den X c (.z s ch) ∗ den X c (srcA s ch) ∗ bigSepL (dstA s ch) (den X c) ∗ (∃ W', owes (c : Thread nD τ) O W'))
            -∗ wp frame (wpE (defs₀ (F := F)) 𝒱₀ (c : Thread nD τ) none) Set.univ (k ⟨⟩) Q)
          -∗ wp frame (wpE (defs₀ (F := F)) 𝒱₀ (c : Thread nD τ) none) Set.univ (waitP c s ch >>= k) Q) := by
  rw [den_srcA]
  unfold waitP
  simp only [Prog.lift, Prog.bind_op, Prog.bind_ret]
  dsimp only [den]
  iintro ⟨⟨#HR, #Hlev⟩, ⟨HcS, HaS⟩, ⟨HcV, HaV⟩, HO⟩ Hk
  ihave #HIs := (records_inv X K (c, some (false, s, ch))) $$ HR
  ihave #HIr := (records_inv X K (c, some (true, s, ch))) $$ HR
  iapply (Rounds.wp_wait_rest_token 𝒱₀ ER (rd X) (c : Thread nD τ) none (κ := K (c, some (false, s, ch)))
      (wpE_waitDma2_eq 𝒱₀ (c : Thread nD τ) none Set.univ) (Set.mem_univ _) () (O := O) (W := W) (R := 0) (m := 0) (T := ∅)
      (by rw [Nat.zero_add, expect_send]; rfl)) $$ [HcS HO HaS]
  · isplitr; · iexact HIs
    isplitl [HcS]; · iexact HcS
    isplitl [HO]; · iexact HO
    isplitr
    · iapply (mayWait_of_above (F := F) c (.dma (sSem s ch)) O fun g u hg =>
        ⟨(hO g u hg).1, by rw [lv_send]; exact Nat.lt_of_le_of_lt (Nat.zero_le _) (hO g u hg).2⟩)
      iexact Hlev
    iexact HaS
  iintro ⟨HO, HaS, -, Hpay⟩
  ihave Hsrc := (Entails.of_eq (rest_send X c s ch)) $$ Hpay
  iapply (Rounds.wp_wait_rest_token 𝒱₀ ER (rd X) (c : Thread nD τ) none (κ := K (c, some (true, s, ch)))
      (wpE_waitDma2_eq 𝒱₀ (c : Thread nD τ) none Set.univ) (Set.mem_univ _) () (O := O) (R := 0) (m := 0) (T := ∅)
      (by rw [Nat.zero_add, expect_recv]; rfl)) $$ [HcV HO HaV]
  · isplitr; · iexact HIr
    isplitl [HcV]; · iexact HcV
    isplitl [HO]; · iexact HO
    isplitr
    · iapply (mayWait_of_above (F := F) c (.dma (rSem s ch)) O fun g u hg =>
        ⟨(hO g u hg).1, by rw [lv_recv]; exact (hO g u hg).2⟩)
      iexact Hlev
    iexact HaV
  iintro ⟨HO, HaV, -, Hpay⟩
  ihave Hdst := ((Entails.of_eq (rest_recv X c s ch)).trans (dst_split X c s ch)) $$ Hpay
  imod (Rounds.cell_close ER (rd X) (Set.mem_univ (K (c, some (false, s, ch)))) (fun h => h) (R := 0 + 1) (duties_later X (sCell c s ch))) $$ [HaS] with HzS
  · isplitr; · iexact HIs
    iexact HaS
  imod (Rounds.cell_close ER (rd X) (Set.mem_univ (K (c, some (true, s, ch)))) (fun h => h) (R := 0 + 1) (duties_later X (rCell c s ch))) $$ [HaV] with HzV
  · isplitr; · iexact HIr
    iexact HaV
  iapply Hk
  isplitl [HzS HzV]
  · isplitl [HzS] <;> iassumption
  isplitl [Hsrc]; · iexact Hsrc
  isplitl [Hdst]; · iexact Hdst
  iexists _
  iexact HO

/-! ## Adding a chunk -/

theorem rectX_free (c : Dev nD) (ch : Fin 8) : (rectX c ch).set ⊆ Finset.univ \ lent c := by
  rw [rectX_set]
  intro i hi
  rw [Finset.mem_sdiff]
  refine ⟨Finset.mem_univ _, fun h => ?_⟩
  unfold lent at h
  obtain ⟨sc, -, h⟩ := Finset.mem_biUnion.mp h
  have hc : c.val < 8 := c.isLt
  exact Finset.disjoint_left.mp (xrgn_disjoint (.inr (.inl (by omega)))) hi h

/-- What a chunk's addition stores is the final contents of the chunk. -/
theorem pay_final (c : Dev nD) (ch : Fin 8) (i : S4096x1024.Idx) (hi : i ∈ (oM.access (rectC ch)).set) :
    (oM.access (rectC ch)).write (Elt F) (landed X c)
      (payC ((oM.access (rectC ch)).read (Elt F) (landed X c)) ((xM.access (rectX c ch)).read (Elt F) (X c))) Finset.univ i
      = final X c i := by
  obtain ⟨x, -, rfl⟩ := Finset.mem_map.mp hi
  rw [View.write_emb_of_mem _ _ (Finset.mem_univ x)]
  unfold payC final
  rw [shapeCast_self]
  have hx : (rectX c ch).emb (Fin.cons ⟨0, Nat.one_pos⟩ x) = xAt c ((rectC ch).emb x 0) ((rectC ch).emb x 1) := by
    funext a
    refine Fin.ext ?_
    rw [Rect.emb_apply]
    show k0_off60 c (BitVec.ofNat 32 (128 * ch.val)) a + 1 * (Fin.cons (α := fun a => Fin (S1x4096x128.size a)) ⟨0, Nat.one_pos⟩ x a).val = _
    rw [congrFun (offR_eq ch c) a]
    match a with
    | ⟨0, _⟩ => rfl
    | ⟨1, _⟩ => rfl
    | ⟨2, _⟩ =>
      show 1024 * (c.val / 4) + 128 * ch.val + 1 * (x 1).val = 1024 * (c.val / 4) + (128 * ch.val + 1 * (x 1).val)
      omega
  show FloatOps.addf (landed X c ((rectC ch).emb x) : F .f32) (X c ((rectX c ch).emb (Shape.reshapeEquiv _ x)) : F .f32) = _
  rw [Shape.reshapeEquiv_cons_one]
  exact congrArg (fun j => (FloatOps.addf (landed X c ((rectC ch).emb x) : F .f32) (X c j : F .f32) : F .f32)) hx

theorem rectC_all (ch : Fin 8) : (oM.access (rectC ch)).set = rgn Finset.univ ch := (View.set_slice_whole _ _).trans (rectC_set ch)

/-- The chunk after the addition's store is the chunk's final piece. -/
theorem out_pay (c : Dev nD) (ch : Fin 8) :
    (((c : Thread nD τ).loc cc0_stg1_0) ↦[rgn Finset.univ ch]{fullShare} ((oM.access (rectC ch)).write (Elt F) (landed X c)
      (payC ((oM.access (rectC ch)).read (Elt F) (landed X c)) ((xM.access (rectX c ch)).read (Elt F) (X c))) Finset.univ))
      ⊢ (den X c (.out ch) : sProp 𝕄) := by
  dsimp only [den]
  unfold oPts
  refine Entails.of_eq (pointsTo_congr fun i hi => pay_final X c ch i ?_)
  rw [rectC_all]
  exact hi

/-- The rule of an addition. -/
theorem wp_rmw (c : Dev nD) (ch : Fin 8) {α : Type} {Q : α → sProp 𝕄} {k : PUnit → Prog (TpuEff nD τ sig (Elt F) Λ₀ .tc) α} :
    iprop(den X c .xr ∗ bigSepL (blks ch) (den X c))
      ⊢ iprop(((den X c .xr ∗ den X c (.out ch)) -∗ wp frame (wpE (defs₀ (F := F)) 𝒱₀ (c : Thread nD τ) none) Set.univ (k ⟨⟩) Q)
          -∗ wp frame (wpE (defs₀ (F := F)) 𝒱₀ (c : Thread nD τ) none) Set.univ (rmwP c ch >>= k) Q) := by
  have hC := rectC_all ch
  have hX : (xM.access (rectX c ch)).set = (rectX c ch).set := View.set_slice_whole _ _
  refine (sep_mono_right (blks_join X c ch)).trans ?_
  unfold rmwP
  simp only [Prog.lift, Prog.bind_op, Prog.bind_ret]
  unfold oPts
  rw [show den X c .xr = xPts c (Finset.univ \ lent c) (X c) from rfl]
  unfold xPts
  iintro ⟨Hx, Ho⟩ Hk
  iapply (wp_load_rect 𝒱₀ (c : Thread nD τ) none Set.univ (m := oM) (r := rectC ch) (hC.subset)) $$ Ho; iintro Ho
  iapply (wp_load_rect 𝒱₀ (c : Thread nD τ) none Set.univ (m := xM) (r := rectX c ch) (hX.subset.trans (rectX_free c ch))) $$ Hx; iintro Hx
  iapply (wp_load_rect 𝒱₀ (c : Thread nD τ) none Set.univ (m := oM) (r := rectC ch) (hC.subset)) $$ Ho; iintro Ho
  iapply (wp_store 𝒱₀ (c : Thread nD τ) none Set.univ (m := oM) (r := rectC ch) (Mk := Finset.univ) (hC.subset)) $$ Ho; iintro Ho
  iapply Hk
  isplitl [Hx]; · iexact Hx
  iapply (out_pay X c ch)
  iexact Ho

end Cert.MeshSum
-- ==== Proof.Run.lean ====
/-
The run of the operations. A check on lists of pieces decides that the body's operations find, each in its turn, the
pieces they take, and that every wait comes while only higher cells are owed; one theorem turns an accepted check
into a proof about the run.
-/
module

public import proofs.«01_k».proof.Proof.Steps

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The check -/

/-- Take one piece out of a list. -/
def take (a : Atom) : List Atom → Option (List Atom)
  | [] => none
  | b :: l => if a = b then some l else (take a l).map (b :: ·)

/-- Take several pieces out of a list. -/
def takeAll : List Atom → List Atom → Option (List Atom)
  | [], S => some S
  | a :: l, S => (take a S).bind (takeAll l)

/-- Whether what a piece owes lies above level `n`. -/
def above (n : ℕ) : Atom → Bool
  | .tgt s ch => decide (n < lvR s ch)
  | _ => true

/-- What one operation makes of the pieces held, if it finds what it needs. -/
def step : Op → List Atom → Option (List Atom)
  | .start s ch, S => (takeAll [.tgt s ch, srcA s ch] S).map fun R => .sent s ch :: R
  | .wait s ch, S => (takeAll [.sent s ch, .due s ch] S).bind fun R =>
      if R.all (above (lvR s ch)) then some (.z s ch :: srcA s ch :: (dstA s ch ++ R)) else none
  | .rmw ch, S => (takeAll (.xr :: blks ch) S).map fun R => .xr :: .out ch :: R

/-- What a list of operations makes of them. -/
def runC : List Op → List Atom → Option (List Atom)
  | [], S => some S
  | o :: l, S => (step o S).bind (runC l)

theorem take_perm (a : Atom) (S R : List Atom) (h : take a S = some R) : S.Perm (a :: R) := by
  induction S generalizing R with
  | nil => exact absurd h (by simp [take])
  | cons b l ih =>
    unfold take at h
    split at h
    · next hab => subst hab; rw [Option.some.inj h]
    · obtain ⟨R', h1, rfl⟩ := Option.map_eq_some_iff.mp h
      exact ((ih R' h1).cons b).trans (List.Perm.swap a b R')

theorem takeAll_perm (l S R : List Atom) (h : takeAll l S = some R) : S.Perm (l ++ R) := by
  induction l generalizing S with
  | nil => rw [Option.some.inj h]; exact List.Perm.refl _
  | cons a l ih =>
    obtain ⟨S', h1, h2⟩ := Option.bind_eq_some_iff.mp h
    exact (take_perm a S S' h1).trans ((ih S' h2).cons a)

/-! ## Lists of pieces -/

omit [FloatOps F] in
theorem sepL_perm {I : Type} {S R : List I} (Φ : I → sProp 𝕄) (h : S.Perm R) : bigSepL S Φ ⊢ bigSepL R Φ := by
  induction h with
  | nil => exact .rfl
  | cons a _ ih => rw [bigSepL_cons', bigSepL_cons']; exact sep_mono_right ih
  | swap a b l =>
    simp only [bigSepL_cons']
    iintro ⟨H1, H2, H3⟩
    isplitl [H2]; · iexact H2
    isplitl [H1]; · iexact H1
    iexact H3
  | trans _ _ ih1 ih2 => exact ih1.trans ih2

theorem oweL_perm (c : Dev nD) {S R : List Atom} (h : S.Perm R) : oweL c S = oweL c R := (h.map (owe c)).sum_eq
theorem oweL_cons (c : Dev nD) (a : Atom) (S : List Atom) : oweL c (a :: S) = owe c a + oweL c S := by
  unfold oweL; rw [List.map_cons, List.sum_cons]
theorem oweL_append (c : Dev nD) (S R : List Atom) : oweL c (S ++ R) = oweL c S + oweL c R := by
  unfold oweL; rw [List.map_append, List.sum_append]

theorem owe_srcA (c : Dev nD) (s : Fin 11) (ch : Fin 8) : owe c (srcA s ch) = 0 := by
  fin_cases s <;> rfl
theorem oweL_dstA (c : Dev nD) (s : Fin 11) (ch : Fin 8) : oweL c (dstA s ch) = 0 := by
  fin_cases s <;> simp [dstA, oweL, owe]
theorem oweL_blks (c : Dev nD) (ch : Fin 8) : oweL c (blks ch) = 0 := by
  simp [blks, oweL, owe]

/-- Whatever is owed is owed for a copy not yet started. -/
theorem oweL_pos (c : Dev nD) (S : List Atom) (g : GSem nD τ sig) (u : Unit) (h : 0 < oweL c S g u) :
    ∃ s ch, Atom.tgt s ch ∈ S ∧ g = rCell (nb (dir s) c) s ch := by
  induction S with
  | nil => exact absurd h (Nat.lt_irrefl 0)
  | cons a S ih =>
    rw [oweL_cons, Pi.add_apply, Finsupp.add_apply] at h
    by_cases h0 : 0 < oweL c S g u
    · obtain ⟨s, ch, h1, h2⟩ := ih h0
      exact ⟨s, ch, List.mem_cons_of_mem _ h1, h2⟩
    · have ha : 0 < owe c a g u := by omega
      cases a with
      | tgt s ch =>
        dsimp only [owe] at ha
        rw [tallyAt_apply] at ha
        by_cases hg : g = rCell (nb (dir s) c) s ch ∧ u = ()
        · exact ⟨s, ch, List.mem_cons_self, hg.1⟩
        · rw [if_neg hg] at ha; exact absurd ha (Nat.lt_irrefl 0)
      | _ => exact absurd ha (Nat.lt_irrefl 0)

/-! ## The run -/

variable (X : Inputs F)

/-- What a device holds and owes between two operations. -/
def held (c : Dev nD) (S : List Atom) : sProp 𝕄 := iprop(bigSepL S (den X c) ∗ ∃ W, owes (c : Thread nD τ) (oweL c S) W)

theorem held_perm (c : Dev nD) {S R : List Atom} (h : S.Perm R) : held X c S ⊢ held X c R := by
  unfold held
  rw [oweL_perm c h]
  exact sep_mono_left (sepL_perm _ h)

/-- One operation that the check accepts. -/
theorem wp_op (K : Dev nD × Key → ℕ) (c : Dev nD) (o : Op) (S R : List Atom) (h : step o S = some R)
    {α : Type} {Q : α → sProp 𝕄} {k : PUnit → Prog (TpuEff nD τ sig (Elt F) Λ₀ .tc) α} :
    iprop((records X K ∗ levAts L lv) ∗ held X c S)
      ⊢ iprop((held X c R -∗ wp frame (wpE (defs₀ (F := F)) 𝒱₀ (c : Thread nD τ) none) Set.univ (k ⟨⟩) Q)
          -∗ wp frame (wpE (defs₀ (F := F)) 𝒱₀ (c : Thread nD τ) none) Set.univ (opP c o >>= k) Q) := by
  cases o with
  | start s ch =>
    obtain ⟨T, h1, rfl⟩ := Option.map_eq_some_iff.mp h
    refine (sep_mono_right (held_perm X c (takeAll_perm _ _ _ h1))).trans ?_
    unfold held
    simp only [List.cons_append, List.nil_append, oweL_cons, owe_srcA, zero_add, bigSepL_cons']
    rw [show owe c (.sent s ch) = 0 from rfl, zero_add, add_comm]
    iintro ⟨⟨#HR, -⟩, ⟨Ht, Hs, Hrest⟩, ⟨%W, HO⟩⟩ Hk
    iapply (wp_start X K c s ch (oweL c T) W) $$ [Ht Hs HO]
    · isplitr; · iexact HR
      isplitl [Ht]; · iexact Ht
      isplitl [Hs]; · iexact Hs
      iexact HO
    iintro ⟨Hn, HO⟩
    iapply Hk
    isplitl [Hn Hrest]
    · isplitl [Hn]; · iexact Hn
      iexact Hrest
    iexists W; iexact HO
  | wait s ch =>
    obtain ⟨T, h1, h2⟩ := Option.bind_eq_some_iff.mp h
    by_cases ha : T.all (above (lvR s ch)) = true
    · rw [if_pos ha] at h2
      obtain rfl := Option.some.inj h2
      refine (sep_mono_right (held_perm X c (takeAll_perm _ _ _ h1))).trans ?_
      unfold held
      simp only [List.cons_append, List.nil_append, oweL_cons, oweL_append, owe_srcA, oweL_dstA, zero_add, bigSepL_cons', bigSepL_append]
      rw [show owe c (.sent s ch) = 0 from rfl, show owe c (.due s ch) = 0 from rfl, show owe c (.z s ch) = 0 from rfl]
      simp only [zero_add]
      iintro ⟨#HE, ⟨Hn, Hd, Hrest⟩, ⟨%W, HO⟩⟩ Hk
      iapply (wp_wait X K c s ch (oweL c T) W (fun g u hg => by
        obtain ⟨s', ch', hm, rfl⟩ := oweL_pos c T g u hg
        refine ⟨rfl, ?_⟩
        rw [lv_recv]
        exact of_decide_eq_true (List.all_eq_true.mp ha _ hm))) $$ [Hn Hd HO]
      · isplitr; · iexact HE
        isplitl [Hn]; · iexact Hn
        isplitl [Hd]; · iexact Hd
        iexact HO
      iintro ⟨Hz, Hs, Hb, HO⟩
      iapply Hk
      isplitr [HO]
      · isplitl [Hz]; · iexact Hz
        isplitl [Hs]; · iexact Hs
        isplitl [Hb]; · iexact Hb
        iexact Hrest
      iexact HO
    · rw [if_neg ha] at h2; exact absurd h2 (by simp)
  | rmw ch =>
    obtain ⟨T, h1, rfl⟩ := Option.map_eq_some_iff.mp h
    refine (sep_mono_right (held_perm X c (takeAll_perm _ _ _ h1))).trans ?_
    unfold held
    simp only [List.cons_append, oweL_cons, oweL_append, oweL_blks, zero_add, bigSepL_cons', bigSepL_append]
    rw [show owe c .xr = 0 from rfl, show owe c (.out ch) = 0 from rfl]
    simp only [zero_add]
    iintro ⟨-, ⟨Hx, Hb, Hrest⟩, HO⟩ Hk
    iapply (wp_rmw X c ch) $$ [Hx Hb]
    · isplitl [Hx]; · iexact Hx
      iexact Hb
    iintro ⟨Hx, Ho⟩
    iapply Hk
    isplitr [HO]
    · isplitl [Hx]; · iexact Hx
      isplitl [Ho]; · iexact Ho
      iexact Hrest
    iexact HO

/-- A run of operations that the check accepts. -/
theorem wp_runOps (K : Dev nD × Key → ℕ) (c : Dev nD) (l : List Op) (S R : List Atom) (h : runC l S = some R) (Q : PUnit → sProp 𝕄) :
    iprop((records X K ∗ levAts L lv) ∗ held X c S)
      ⊢ iprop((held X c R -∗ Q ⟨⟩)
          -∗ wp frame (wpE (defs₀ (F := F)) 𝒱₀ (c : Thread nD τ) none) Set.univ (runOps c l) Q) := by
  induction l generalizing S with
  | nil =>
    obtain rfl := Option.some.inj h
    unfold runOps
    rw [wp_ret]
    iintro ⟨-, H⟩ Hk
    imodintro
    iapply Hk
    iexact H
  | cons o l ih =>
    obtain ⟨T, h1, h2⟩ := Option.bind_eq_some_iff.mp h
    unfold runOps
    iintro ⟨#HE, H⟩ Hk
    iapply (wp_op X K c o S T h1) $$ [H]
    · isplitr; · iexact HE
      iexact H
    iintro H
    iapply (ih T h2) $$ [H]
    · isplitr; · iexact HE
      iexact H
    iexact Hk

/-! ## The body's list passes -/

def slots : List (Fin 11) := [0, 1, 2, 3, 4, 5, 6, 7, 8, 9, 10]
def chunks : List (Fin 8) := [0, 1, 2, 3, 4, 5, 6, 7]
/-- Every slot with every chunk. -/
def pairs : List (Fin 11 × Fin 8) := slots.flatMap fun s => chunks.map fun ch => (s, ch)
/-- The first three slots with every chunk. -/
def pairs3 : List (Fin 11 × Fin 8) := [0, 1, 2].flatMap fun s => chunks.map fun ch => (s, ch)

/-- What a device holds when the operations begin, -/
def S₀ : List Atom :=
  .xr :: (pairs3.map (fun p => Atom.x p.1 p.2) ++ (pairs.map (fun p => Atom.tgt p.1 p.2) ++ pairs.map (fun p => Atom.due p.1 p.2)))
/-- and when they end. -/
def S₁ : List Atom :=
  .xr :: (pairs3.map (fun p => Atom.x p.1 p.2) ++ (pairs.map (fun p => Atom.z p.1 p.2) ++ chunks.map Atom.out))

/-- The check, run on the body's operations. -/
theorem prog_check : ((runC prog S₀).bind (takeAll S₁)) = some [] := by decide +kernel

theorem prog_runs : ∃ R, runC prog S₀ = some R ∧ R.Perm S₁ := by
  obtain ⟨R, h1, h2⟩ := Option.bind_eq_some_iff.mp prog_check
  have := takeAll_perm _ _ _ h2
  rw [List.append_nil] at this
  exact ⟨R, h1, this⟩

theorem pairs_univ : (Finset.univ : Finset (Fin 11 × Fin 8)) = pairs.toFinset := by decide +kernel
theorem pairs_nodup : pairs.Nodup := by decide +kernel
theorem pairs3_filter : (Finset.univ.filter fun p : Fin 11 × Fin 8 => p.1.val < 3) = pairs3.toFinset := by decide +kernel
theorem pairs3_nodup : pairs3.Nodup := by decide +kernel
theorem chunks_univ : (Finset.univ : Finset (Fin 8)) = chunks.toFinset := by decide +kernel
theorem chunks_nodup : chunks.Nodup := by decide +kernel

end Cert.MeshSum
-- ==== Proof.Body.lean ====
/-
The body of the kernel on one device: the handshake with the three neighbours, then the operations. Each device hands
every neighbour the places of its output buffer that the neighbour's copies land in, and receives theirs.
-/
module

public import proofs.«01_k».proof.Proof.Run
public import proofs.«01_k».proof.Proof.Gen.KernelIdeal.Points
public import Idealize.ShloMosaic.Lib.Pipeline.Launch

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Whole buffers and their pieces -/

omit [FloatOps F] in
/-- Copies sorted by axis. -/
theorem by_axis (Φ : Fin 3 → Fin 11 × Fin 8 → sProp 𝕄) :
    (bigSep Finset.univ fun d => bigSep (along d) (Φ d)) = bigSep Finset.univ fun sc : Fin 11 × Fin 8 => Φ (dir sc.1) sc := by
  have hU : (Finset.univ : Finset (Fin 11 × Fin 8)) = (Finset.univ : Finset (Fin 3)).biUnion along := by
    ext sc; simp [along]
  rw [hU, BI.bigSep_biUnion_eq]
  · exact bigSep_congr fun d _ => bigSep_congr fun sc h => by rw [(Finset.mem_filter.mp h).2]
  · intro d _ d' _ h
    refine Finset.disjoint_left.mpr fun sc h1 h2 => h ?_
    exact (Finset.mem_filter.mp h1).2.symm.trans (Finset.mem_filter.mp h2).2

theorem dstJ_disjoint (s s' : Fin 11) (h : s ≠ s') : Disjoint (dstJ s) (dstJ s') := by revert s s'; decide
theorem dstJ_cover (j : Fin 12) : ∃ s, j ∈ dstJ s := by revert j; decide
theorem srcJ_disjoint (s s' : Fin 11) (hs : s.val < 3) (hs' : s'.val < 3) (h : s ≠ s') : Disjoint (srcJ s) (srcJ s') := by
  revert s s'; decide

theorem image_disjoint (c : Dev nD) {A B : Finset (Fin 12)} (h : Disjoint A B) : Disjoint (A.image (bd c)) (B.image (bd c)) :=
  (Finset.disjoint_image (bd_injective c)).mpr h

theorem pair_ne {p p' : Fin 11 × Fin 8} (h : p ≠ p') : p.1 ≠ p'.1 ∨ p.2 ≠ p'.2 := by
  by_contra hn
  rw [not_or, not_not, not_not] at hn
  exact h (Prod.ext hn.1 hn.2)

omit [FloatOps F] in
theorem hole_of (c : Dev nD) (s : Fin 11) (ch : Fin 8) (f : S4096x1024.Idx → Elt F .f32) :
    (oPts c (rgn ((dstJ s).image (bd c)) ch) fullShare f : sProp 𝕄) ⊢ holePts c s ch := by
  unfold holePts
  iintro H
  iexists f
  iexact H

omit [FloatOps F] in
/-- The output buffer is the places the copies land in. -/
theorem o_holes (c : Dev nD) (f : S4096x1024.Idx → Elt F .f32) :
    oPts c Finset.univ fullShare f ⊢ (bigSep Finset.univ fun sc : Fin 11 × Fin 8 => holePts c sc.1 sc.2 : sProp 𝕄) := by
  have hU : (Finset.univ : Finset S4096x1024.Idx)
      = (Finset.univ : Finset (Fin 11 × Fin 8)).biUnion fun sc => rgn ((dstJ sc.1).image (bd c)) sc.2 := by
    refine (Finset.eq_univ_iff_forall.mpr fun i => ?_).symm
    obtain ⟨j, -, hj⟩ := Finset.mem_image.mp ((bd_image_univ c).symm ▸ Finset.mem_univ (band (i 0)))
    obtain ⟨s, hs⟩ := dstJ_cover j
    have hi : (i 1).val < 1024 := (i 1).isLt
    refine Finset.mem_biUnion.mpr ⟨(s, ⟨(i 1).val / 128, by omega⟩), Finset.mem_univ _, mem_rgn.mpr ⟨?_, rfl⟩⟩
    exact Finset.mem_image.mpr ⟨j, hs, hj⟩
  have h : (oPts c Finset.univ fullShare f : sProp 𝕄)
      = bigSep Finset.univ fun sc : Fin 11 × Fin 8 => oPts c (rgn ((dstJ sc.1).image (bd c)) sc.2) fullShare f := by
    rw [hU]
    unfold oPts
    refine pointsTo_biUnion _ _ fun p _ p' _ h => rgn_disjoint ((pair_ne h).imp (fun h => ?_) fun h => h)
    exact image_disjoint c (dstJ_disjoint _ _ h)
  rw [h]
  exact bigSep_mono fun sc _ => hole_of c sc.1 sc.2 f

variable (X : Inputs F)

/-- The output buffer, all chunks added, is whole again. -/
theorem o_final (c : Dev nD) : bigSepL (chunks.map Atom.out) (den X c) ⊢ oPts c Finset.univ fullShare (final X c) := by
  have hU : (Finset.univ : Finset S4096x1024.Idx) = (Finset.univ : Finset (Fin 8)).biUnion fun ch => rgn Finset.univ ch := by
    refine (Finset.eq_univ_iff_forall.mpr fun i => ?_).symm
    have hi : (i 1).val < 1024 := (i 1).isLt
    exact Finset.mem_biUnion.mpr ⟨⟨(i 1).val / 128, by omega⟩, Finset.mem_univ _, mem_rgn.mpr ⟨Finset.mem_univ _, rfl⟩⟩
  rw [bigSepL_map, ← bigSep_univ_eq_bigSepL chunks chunks_univ chunks_nodup, hU]
  unfold oPts
  exact Entails.of_eq (pointsTo_biUnion _ _ fun p _ p' _ h => rgn_disjoint (.inr h)).symm

omit [FloatOps F] in
theorem x_parts (c : Dev nD) : (xPts c (lent c) (X c) : sProp 𝕄)
    = bigSep (Finset.univ.filter fun p : Fin 11 × Fin 8 => p.1.val < 3) fun sc =>
        xPts c (xrgn ((srcJ sc.1).image (bd c)) (1 - c.val / 4) sc.2) (X c) := by
  unfold xPts lent
  refine pointsTo_biUnion _ _ fun p hp p' hp' h => xrgn_disjoint ((pair_ne h).imp (fun h => ?_) fun h => .inr h)
  exact image_disjoint c (srcJ_disjoint _ _ (Finset.mem_filter.mp hp).2 (Finset.mem_filter.mp hp').2 h)

/-- The input buffer is the parts that are sent and the rest. -/
theorem x_split (c : Dev nD) : xPts c Finset.univ (X c)
    ⊣⊢ (iprop(den X c .xr ∗ bigSepL (pairs3.map fun p => Atom.x p.1 p.2) (den X c)) : sProp 𝕄) := by
  have h : (bigSepL (pairs3.map fun p => Atom.x p.1 p.2) (den X c) : sProp 𝕄) = xPts c (lent c) (X c) := by
    rw [bigSepL_map, x_parts, bigSep_eq_bigSepL_of_eq pairs3 pairs3_filter pairs3_nodup]
    rfl
  rw [h]
  dsimp only [den]
  unfold xPts
  have hs := pointsTo_split_subset (q := fullShare) (f := X c) (ℓ := (c : Thread nD τ).loc cc0_stg0_0) (Finset.subset_univ (lent c)) (Ix := Unit) (Name := ℕ) (U := UU) (Lvl := ℕ)
  exact ⟨hs.1.trans sep_comm.1, sep_comm.1.trans hs.2⟩

/-! ## What the body starts from and ends with -/

/-- What a device owes at launch: the receivers' credits of its copies and a unit to each neighbour's barrier. -/
def O₀ (c : Dev nD) : CellTallies nD τ sig Unit :=
  ((oweL c S₀ + tallyAt (barCell (nb 2 c)) () 1) + tallyAt (barCell (nb 1 c)) () 1) + tallyAt (barCell (nb 0 c)) () 1

/-- The rights of one copy: to pay both of its cells, and the position at its send cell. -/
def copyToks (c : Dev nD) (sc : Fin 11 × Fin 8) : sProp 𝕄 :=
  iprop(dutyTok ER (sCell c sc.1 sc.2) 0 0 ∗ dutyTok ER (rCell (nb (dir sc.1) c) sc.1 sc.2) 0 0 ∗ atPos ER (sCell c sc.1 sc.2) 0 ∅ 0)

/-- The ghost state of a device: the shared facts, its positions, and the rights to pay what it pays. -/
def ghost (K : Dev nD × Key → ℕ) (c : Dev nD) : sProp 𝕄 :=
  iprop(records X K ∗ atPos ER (barCell c) 0 ∅ 0 ∗ (bigSep Finset.univ fun d : Fin 3 => dutyTok ER (barCell (nb d c)) 0 d)
    ∗ (bigSep Finset.univ (copyToks c)) ∗ bigSep Finset.univ fun sc : Fin 11 × Fin 8 => atPos ER (rCell c sc.1 sc.2) 0 ∅ 0)

/-- What the body starts from beside the buffers: the ghost state, the credits it waits for, the levels. -/
def start (c : Dev nD) : sProp 𝕄 :=
  iprop((∃ K, ghost X K c) ∗ cred (tallyAt (barCell c) () 3)
    ∗ (bigSep Finset.univ fun sc : Fin 11 × Fin 8 => cred (tallyAt (rCell c sc.1 sc.2) () (credN sc.1))) ∗ levAts L lv)

/-- What it ends with beside the buffers: every semaphore at zero. -/
def done (c : Dev nD) : sProp 𝕄 :=
  iprop((bigSep Finset.univ fun sc : Fin 11 × Fin 8 => iprop(semVal (sCell c sc.1 sc.2) 0 ∗ semVal (rCell c sc.1 sc.2) 0)) ∗ semVal (barCell c) 0)

theorem oweL_S₁ (c : Dev nD) : oweL c S₁ = 0 := by
  simp only [S₁, oweL_cons, oweL_append]
  have h1 : oweL c (pairs3.map fun p => Atom.x p.1 p.2) = 0 := by
    unfold oweL; rw [List.map_map]; exact List.sum_eq_zero fun x hx => by obtain ⟨p, -, rfl⟩ := List.mem_map.mp hx; rfl
  have h2 : oweL c (pairs.map fun p => Atom.z p.1 p.2) = 0 := by
    unfold oweL; rw [List.map_map]; exact List.sum_eq_zero fun x hx => by obtain ⟨p, -, rfl⟩ := List.mem_map.mp hx; rfl
  have h3 : oweL c (chunks.map Atom.out) = 0 := by
    unfold oweL; rw [List.map_map]; exact List.sum_eq_zero fun x hx => by obtain ⟨p, -, rfl⟩ := List.mem_map.mp hx; rfl
  rw [h1, h2, h3]
  simp only [add_zero]
  rfl

/-- The pieces the operations begin with, from the buffers, the rights and the credits. -/
theorem pieces_begin (c : Dev nD) :
    iprop(xPts c Finset.univ (X c) ∗ (bigSep Finset.univ fun sc : Fin 11 × Fin 8 => holePts (nb (dir sc.1) c) sc.1 sc.2) ∗ bigSep Finset.univ (copyToks c)
        ∗ (bigSep Finset.univ fun sc : Fin 11 × Fin 8 => cred (tallyAt (rCell c sc.1 sc.2) () (credN sc.1)))
        ∗ bigSep Finset.univ fun sc : Fin 11 × Fin 8 => atPos ER (rCell c sc.1 sc.2) 0 ∅ 0)
      ⊢ bigSepL S₀ (den X c) := by
  unfold S₀
  rw [bigSepL_cons', bigSepL_append, bigSepL_append, bigSepL_map (fun p : Fin 11 × Fin 8 => Atom.tgt p.1 p.2), bigSepL_map (fun p : Fin 11 × Fin 8 => Atom.due p.1 p.2),
    ← bigSep_univ_eq_bigSepL pairs pairs_univ pairs_nodup, ← bigSep_univ_eq_bigSepL pairs pairs_univ pairs_nodup]
  rw [show (bigSep Finset.univ fun p : Fin 11 × Fin 8 => den X c (.tgt p.1 p.2))
      = (iprop((bigSep Finset.univ fun sc : Fin 11 × Fin 8 => holePts (nb (dir sc.1) c) sc.1 sc.2) ∗ bigSep Finset.univ (copyToks c)) : sProp 𝕄)
      from bigSep_sep' _ _ _,
    show (bigSep Finset.univ fun p : Fin 11 × Fin 8 => den X c (.due p.1 p.2))
      = (iprop((bigSep Finset.univ fun sc : Fin 11 × Fin 8 => cred (tallyAt (rCell c sc.1 sc.2) () (credN sc.1)))
          ∗ bigSep Finset.univ fun sc : Fin 11 × Fin 8 => atPos ER (rCell c sc.1 sc.2) 0 ∅ 0) : sProp 𝕄)
      from bigSep_sep' _ _ _]
  iintro ⟨Hx, Hh, Ht, Hc, Ha⟩
  ihave Hx' := (x_split X c).1 $$ Hx
  icases Hx' with ⟨Hr, Hx⟩
  isplitl [Hr]; · iexact Hr
  isplitl [Hx]; · iexact Hx
  isplitl [Hh Ht]
  · isplitl [Hh]; · iexact Hh
    iexact Ht
  isplitl [Hc]; · iexact Hc
  iexact Ha

/-- The buffers and the semaphores from the pieces the operations end with. -/
theorem pieces_end (c : Dev nD) :
    bigSepL S₁ (den X c) ⊢ iprop(xPts c Finset.univ (X c) ∗ oPts c Finset.univ fullShare (final X c)
      ∗ bigSep Finset.univ fun sc : Fin 11 × Fin 8 => iprop(semVal (sCell c sc.1 sc.2) 0 ∗ semVal (rCell c sc.1 sc.2) 0)) := by
  unfold S₁
  rw [bigSepL_cons', bigSepL_append, bigSepL_append, bigSepL_map (fun p : Fin 11 × Fin 8 => Atom.z p.1 p.2),
    ← bigSep_univ_eq_bigSepL pairs pairs_univ pairs_nodup]
  iintro ⟨Hr, Hx, Hz, Ho⟩
  isplitl [Hr Hx]
  · iapply (x_split X c).2
    isplitl [Hr]; · iexact Hr
    iexact Hx
  isplitl [Ho]; · iapply (o_final X c); iexact Ho
  iexact Hz

/-! ## The body -/

/-- The whole body: from the start, the input buffer and the output buffer at any contents, to both buffers at their
final contents and every semaphore at zero. -/
theorem wp_body (K : Dev nD × Key → ℕ) (c : Dev nD) (f : S4096x1024.Idx → Elt F .f32) (W : Waits sig Unit) (Q : PUnit → sProp 𝕄) :
    iprop(ghost X K c ∗ cred (tallyAt (barCell c) () 3)
        ∗ (bigSep Finset.univ fun sc : Fin 11 × Fin 8 => cred (tallyAt (rCell c sc.1 sc.2) () (credN sc.1))) ∗ levAts L lv
        ∗ owes (c : Thread nD τ) (O₀ c) W ∗ xPts c Finset.univ (X c) ∗ oPts c Finset.univ fullShare f)
      ⊢ iprop(((done c ∗ (∃ W', owes (c : Thread nD τ) 0 W') ∗ xPts c Finset.univ (X c) ∗ oPts c Finset.univ fullShare (final X c)) -∗ Q ⟨⟩)
          -∗ wp frame (wpE (defs₀ (F := F)) 𝒱₀ (c : Thread nD τ) none) Set.univ bodyP Q) := by
  unfold bodyP
  simp only [semSignalWord, semWaitWord, Prog.lift, Prog.bind_op, Prog.bind_ret, Prog.pure_eq_ret, wp_deviceId, sigDev_eq]
  unfold ghost
  rw [bigSep_univ_eq_bigSepL [(0 : Fin 3), 1, 2] (by decide) (by decide)]
  simp only [bigSepL_cons']
  iintro ⟨⟨#HR, HaB, ⟨Ht0, Ht1, Ht2, -⟩, Htk, HaR⟩, HcB, HcR, #Hlev, HO, Hx, Ho⟩ Hk
  ihave Hh := ((o_holes c f).trans (Entails.of_eq (by_axis (F := F) fun _ sc => holePts c sc.1 sc.2).symm)) $$ Ho
  ihave Hh := (Entails.of_eq (bigSep_univ_eq_bigSepL [(0 : Fin 3), 1, 2] (by decide) (by decide) fun d => bigSep (along d) fun sc => (holePts c sc.1 sc.2 : sProp 𝕄))) $$ Hh
  simp only [bigSepL_cons']
  icases Hh with ⟨Hh0, Hh1, Hh2, -⟩
  have hpay : ∀ d : Fin 3, (bigSep (along d) fun sc => (holePts c sc.1 sc.2 : sProp 𝕄)) ⊢ (rd X).payload (barCell (nb d c)) 0 d := fun d => by
    rw [payload_bar]; unfold barPay; rw [nb_nb]
  unfold O₀
  iapply (Rounds.wp_signal 𝒱₀ ER (rd X) (c : Thread nD τ) none (dst := (nb 0 c : Thread nD τ)) (κ := K (nb 0 c, none))
      (d := 0) (by rw [duties_bar]; exact Finset.mem_univ _) ((amount_bar X (nb 0 c) 0).trans (by decide)) ()
      ((oweL c S₀ + tallyAt (barCell (nb 2 c)) () 1) + tallyAt (barCell (nb 1 c)) () 1) rfl) $$ [HO Ht0 Hh0]
  · isplitr; · iapply (records_inv X K (nb 0 c, none)); iexact HR
    isplitl [HO]; · iexact HO
    isplitl [Ht0]; · iexact Ht0
    isplitl [Hh0]; · iapply (hpay 0); iexact Hh0
    iapply (records_reached X K (nb 0 c, none)); iexact HR
  iintro HO
  iapply (Rounds.wp_signal 𝒱₀ ER (rd X) (c : Thread nD τ) none (dst := (nb 1 c : Thread nD τ)) (κ := K (nb 1 c, none))
      (d := 1) (by rw [duties_bar]; exact Finset.mem_univ _) ((amount_bar X (nb 1 c) 1).trans (by decide)) ()
      (oweL c S₀ + tallyAt (barCell (nb 2 c)) () 1) rfl) $$ [HO Ht1 Hh1]
  · isplitr; · iapply (records_inv X K (nb 1 c, none)); iexact HR
    isplitl [HO]; · iexact HO
    isplitl [Ht1]; · iexact Ht1
    isplitl [Hh1]; · iapply (hpay 1); iexact Hh1
    iapply (records_reached X K (nb 1 c, none)); iexact HR
  iintro HO
  iapply (Rounds.wp_signal 𝒱₀ ER (rd X) (c : Thread nD τ) none (dst := (nb 2 c : Thread nD τ)) (κ := K (nb 2 c, none))
      (d := 2) (by rw [duties_bar]; exact Finset.mem_univ _) ((amount_bar X (nb 2 c) 2).trans (by decide)) ()
      (oweL c S₀) rfl) $$ [HO Ht2 Hh2]
  · isplitr; · iapply (records_inv X K (nb 2 c, none)); iexact HR
    isplitl [HO]; · iexact HO
    isplitl [Ht2]; · iexact Ht2
    isplitl [Hh2]; · iapply (hpay 2); iexact Hh2
    iapply (records_reached X K (nb 2 c, none)); iexact HR
  iintro HO
  iapply (Rounds.wp_wait_rest_token 𝒱₀ ER (rd X) (c : Thread nD τ) none (κ := K (c, none))
      (wpE_semWait_eq 𝒱₀ (c : Thread nD τ) none Set.univ) (Set.mem_univ _) () (O := oweL c S₀) (W := W) (R := 0) (m := 0) (T := ∅)
      (by rw [expect_bar]; decide)) $$ [HcB HO HaB]
  · isplitr; · iapply (records_inv X K (c, none)); iexact HR
    isplitl [HcB]; · iexact HcB
    isplitl [HO]; · iexact HO
    isplitr
    · iapply (mayWait_of_above (F := F) c (.reg barS) (oweL c S₀) fun g u hg => by
        obtain ⟨s, ch, -, rfl⟩ := oweL_pos c S₀ g u hg
        refine ⟨rfl, ?_⟩
        rw [lv_recv, lv_bar]
        exact lvR_ge s ch)
      iexact Hlev
    iexact HaB
  iintro ⟨HO, HaB, -, Hpay⟩
  ihave Hh := ((Entails.of_eq (rest_bar X c)).trans (Entails.of_eq (by_axis (F := F) fun d sc => holePts (nb d c) sc.1 sc.2))) $$ Hpay
  imod (Rounds.cell_close ER (rd X) (Set.mem_univ (K (c, none))) (fun h => h) (R := 0 + 1) (duties_later X (barCell c))) $$ [HaB] with HzB
  · isplitr; · iapply (records_inv X K (c, none)); iexact HR
    iexact HaB
  obtain ⟨R, hR, hp⟩ := prog_runs
  ihave HS := (pieces_begin X c) $$ [Hx Hh Htk HcR HaR]
  · isplitl [Hx]; · iexact Hx
    isplitl [Hh]; · iexact Hh
    isplitl [Htk]; · iexact Htk
    isplitl [HcR]; · iexact HcR
    iexact HaR
  iapply (wp_runOps X K c prog S₀ R hR Q) $$ [HS HO]
  · isplitr
    · isplitr; · iexact HR
      iexact Hlev
    unfold held
    isplitl [HS]; · iexact HS
    iexists _; iexact HO
  iintro H
  ihave H := (held_perm X c hp) $$ H
  unfold held
  rw [oweL_S₁]
  icases H with ⟨HS, HO⟩
  ihave HS := (pieces_end X c) $$ HS
  icases HS with ⟨Hx, Ho, Hz⟩
  iapply Hk
  unfold done
  isplitl [Hz HzB]
  · isplitl [Hz]; · iexact Hz
    iexact HzB
  isplitl [HO]; · iexact HO
  isplitl [Hx]; · iexact Hx
  iexact Ho

end Cert.MeshSum
-- ==== Proof.Launch.lean ====
/-
The launch: what the pipeline holds, that every device's body meets its obligation, how the ghost state and the credits
are dealt to the devices, and the run of the whole program on eight devices for any float values.
-/
module

public import proofs.«01_k».proof.Proof.Body
public import proofs.«01_k».proof.Proof.Gen.KernelIdeal.Launch
public import Idealize.ShloMosaic.Lib.Pipeline.CollectiveSegs

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-- The block each device begins with. -/
def xin : Inputs F := fun c => (win0_0.blk (0 : Fin 1)).view.read (Elt F) (m ((c : Thread nD τ).loc main_arg0))

/-! ## The pipeline's proof data -/

/-- The arrays from the memory; after the one point the input is unchanged and the output is the sum; the devices owe
what the launch gives them, and nothing at the end. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => final (xin m) c
  Φ t := match t with
    | ⟨0, _⟩ => start (xin m) c
    | ⟨_ + 1, _⟩ => done c
  q _ := fullShare
  owed t := match t with
    | ⟨0, _⟩ => O₀ c
    | ⟨_ + 1, _⟩ => 0

omit [FloatOps F] in
theorem owns_stage (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer at given contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the body is given at the point, -/
def bodyPre (c : Dev nD) : sProp 𝕄 :=
  iprop(start (xin m) c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and what it gives back. -/
def bodyPost (c : Dev nD) : sProp 𝕄 :=
  iprop(done c ∗ (dats m ρ 0 c).owesAt () t0_0.succ ∗ stg c cc0_stg0_0 (xin m c) ∗ stg c cc0_stg1_0 (final (xin m) c))

theorem sound_body (c : Dev nD) :
    bodyPre m ρ c ⊢ wp frame (wpE (defs₀ (F := F)) 𝒱₀ (c : Thread nD τ) none) Set.univ
      (cc0_body (F := F) xM (Memref.isWhole_whole _) oM (Memref.isWhole_whole _) cc0_scratch0 cc0_scratch1) (fun _ => bodyPost m ρ c) := by
  rw [body_eq]
  unfold bodyPre start
  iintro ⟨⟨⟨%K, Hg⟩, HcB, HcR, Hlev⟩, Ho, ⟨%d0, %g0, %hg0, Hx⟩, ⟨%d1, %g1, %hg1, Hout⟩⟩
  have hx : g0 = xin m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (wp_body (xin m) K c g1 W (fun _ => bodyPost m ρ c)) $$ [Hg HcB HcR Hlev HO Hx Hout]
  · isplitl [Hg]; · iexact Hg
    isplitl [HcB]; · iexact HcB
    isplitl [HcR]; · iexact HcR
    isplitl [Hlev]; · iexact Hlev
    isplitl [HO]; · iexact HO
    unfold xPts oPts
    isplitl [Hx]; · iexact Hx
    iexact Hout
  iintro ⟨Hd, ⟨%W', HO⟩, Hx, Hout⟩
  unfold bodyPost Dat.owesAt Pipeline.owesWithin xPts oPts
  rw [show (dats m ρ 0 c).owed t0_0.succ = 0 from rfl]
  isplitl [Hd]; · iexact Hd
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- Every device's body meets its obligation. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_stage]
  have h := sound_body m ρ c
  rw [show cc0_body (F := F) xM (Memref.isWhole_whole _) oM (Memref.isWhole_whole _) cc0_scratch0 cc0_scratch1
    = defs₀ (F := F) Proc.tc 0 (t0_0, cfg0.slots t0_0) from rfl] at h
  generalize defs₀ (F := F) Proc.tc 0 (t0_0, cfg0.slots t0_0) = P at h ⊢
  unfold bodyPre at h
  refine BIBase.Entails.trans ?_ (h.trans (wp_mono _ _ _ fun _ => ?_))
  · refine BIClass.sep_mono (Entails.of_eq rfl) (BIClass.sep_mono (Entails.of_eq rfl) (BIClass.sep_mono ?_ ?_))
    · exact Entails.of_eq rfl
    · exact Entails.of_eq rfl
  · unfold bodyPost
    refine BIClass.sep_mono (Entails.of_eq rfl) (BIClass.sep_mono (Entails.of_eq rfl) (BIClass.sep_mono ?_ ?_))
    · exact Entails.of_eq rfl
    · exact Entails.of_eq rfl

/-! ## Dealing out the ghost state -/

theorem ownSemFacts : Pipeline.OwnSemFacts cfg0.spec osem where
  isScoped k := by revert k; decide +kernel
  inj := osem_injective
  disj k w s := by revert k w s; decide +kernel

theorem share_eq (c : Dev nD) (w : Fin cfg0.W) : (dats m ρ 0 c).share w = fullShare := by unfold Dat.share; split <;> rfl

/-- Every cell of the protocol. -/
def allCells : Finset (GSem nD τ sig) := Finset.univ.map ⟨kcell, kcell_injective⟩

/-- Every duty: a neighbour's at a barrier, or a copy's. -/
def dutyOf (cj : Dev nD × (Fin 3 ⊕ XKey)) : GSem nD τ sig × ℕ × Fin 3 := match cj.2 with
  | .inl d => (barCell cj.1, 0, d)
  | .inr k => (kcell (cj.1, some k), 0, 0)
theorem dutyOf_injective : Function.Injective dutyOf := by
  rintro ⟨c, j⟩ ⟨c', j'⟩ h
  have hc (c c' : Dev nD) (k k' : Key) (h : kcell (c, k) = kcell (c', k')) : c = c' ∧ k = k' := by
    have := kcell_injective h; exact ⟨congrArg Prod.fst this, congrArg Prod.snd this⟩
  rcases j with d | k <;> rcases j' with d' | k'
  · have h1 := (hc c c' none none (congrArg (fun x : GSem nD τ sig × ℕ × Fin 3 => x.1) h)).1
    have h2 : d = d' := congrArg (fun x : GSem nD τ sig × ℕ × Fin 3 => x.2.2) h
    rw [h1, h2]
  · exact absurd (hc c c' none (some k') (congrArg (fun x : GSem nD τ sig × ℕ × Fin 3 => x.1) h)).2 (fun h => by cases h)
  · exact absurd (hc c c' (some k) none (congrArg (fun x : GSem nD τ sig × ℕ × Fin 3 => x.1) h)).2 (fun h => by cases h)
  · have h1 := hc c c' (some k) (some k') (congrArg (fun x : GSem nD τ sig × ℕ × Fin 3 => x.1) h)
    rw [h1.1, Option.some.inj h1.2]
def allDuties : Finset (GSem nD τ sig × ℕ × Fin 3) := Finset.univ.map ⟨dutyOf, dutyOf_injective⟩

/-- The ghost state at launch. -/
def u₀ : UU := (initOf (Pipeline.cells cfgs cellOf_inj) (Pipeline.launchToks cfgs cellOf_inj), initOf allCells allDuties)

omit [FloatOps F] in
/-- The copies' keys, kind by kind. -/
theorem by_kind (Φ : XKey → sProp 𝕄) :
    bigSep Finset.univ Φ = iprop((bigSep Finset.univ fun sc => Φ (false, sc)) ∗ bigSep Finset.univ fun sc => Φ (true, sc)) := by
  rw [bigSep_univ_prod, bigSep_univ_eq_bigSepL [false, true] (by decide) (by decide)]
  rfl
omit [FloatOps F] in
/-- The keys: the barrier's, then the copies'. -/
theorem by_key (Φ : Key → sProp 𝕄) : bigSep Finset.univ Φ = iprop(Φ none ∗ bigSep Finset.univ fun k => Φ (some k)) := by
  have h : (Finset.univ : Finset Key) = insert none (Finset.univ.map Function.Embedding.some) := by
    ext k; cases k <;> simp
  rw [h, BI.bigSep_insert (by simp), bigSep_map]
  rfl

/-- The duty tokens of the cells of device `c`. -/
def toks (c : Dev nD) : sProp 𝕄 :=
  iprop((bigSep Finset.univ fun d : Fin 3 => dutyTok ER (barCell c) 0 d)
    ∗ (bigSep Finset.univ fun sc : Fin 11 × Fin 8 => dutyTok ER (sCell c sc.1 sc.2) 0 0)
    ∗ bigSep Finset.univ fun sc : Fin 11 × Fin 8 => dutyTok ER (rCell c sc.1 sc.2) 0 0)

/-- What the launch's ghost state gives device `c`: the states of its cells, its positions, its cells' duties. -/
def G (c : Dev nD) : sProp 𝕄 :=
  iprop((bigSep Finset.univ fun k : Key => roundState ER (rd (xin m)) (kcell (c, k)) 0)
    ∗ (bigSep Finset.univ fun k : Key => iprop(atPos ER (kcell (c, k)) 0 ∅ 0 ∗ reached ER (kcell (c, k)) 0)) ∗ toks c)
/-- What the devices make of it together. -/
def G' (c : Dev nD) : sProp 𝕄 := iprop(∃ K, ghost (xin m) K c)

omit [FloatOps F] in
theorem fund_all : BI.own (ER (initOf allCells allDuties)) ⊢ (|==> bigSep Finset.univ (G m) : sProp 𝕄) := by
  have hX (Φ : GSem nD τ sig → sProp 𝕄) : bigSep allCells Φ = bigSep Finset.univ fun c : Dev nD => bigSep Finset.univ fun k : Key => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => toks c := by
    unfold allDuties; rw [bigSep_map, bigSep_univ_prod]
    refine bigSep_congr fun c _ => ?_
    unfold toks
    rw [BI.bigSep_univ_sum, by_kind]
    rfl
  iintro HX
  imod (Rounds.fund ER (rd (xin m)) allCells allDuties) $$ HX with ⟨Hst, Hr, Hat, Htok⟩
  imodintro
  ihave Hst' := (Entails.of_eq (hX fun g => roundState ER (rd (xin m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k => semVal (kcell (c, some k)) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd (xin m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun k : Key => semVal (kcell (c, k)) 0 : sProp 𝕄) from by
        rw [ownSems0_eq, unscopedSems0_eq, by_key]; exact sep_comm.1) $$ [Hos Hus]
  · isplitl [Hos] <;> iassumption
  imod (show iprop((bigSep Finset.univ fun k : Key => semVal (kcell (c, k)) 0) ∗ bigSep Finset.univ fun k : Key => roundState ER (rd (xin m)) (kcell (c, k)) 0)
      ⊢ (|={Set.univ}=> bigSep Finset.univ fun k => iprop(∃ κ : ℕ, cellInv ER (rd (xin m)) κ (kcell (c, k))) : sProp 𝕄) from by
        rw [← bigSep_sep']
        exact (bigSep_mono fun k _ => (Rounds.body_intro ER (rd (xin m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties device `c` pays. -/
def payToks (c : Dev nD) : sProp 𝕄 :=
  iprop((bigSep Finset.univ fun d : Fin 3 => dutyTok ER (barCell (nb d c)) 0 d)
    ∗ (bigSep Finset.univ fun sc : Fin 11 × Fin 8 => dutyTok ER (sCell c sc.1 sc.2) 0 0)
    ∗ bigSep Finset.univ fun sc : Fin 11 × Fin 8 => dutyTok ER (rCell (nb (dir sc.1) c) sc.1 sc.2) 0 0)

omit [FloatOps F] in
/-- What is indexed by device and item may be dealt to the device's neighbour along the item's axis. -/
theorem dealt {I : Type} [Fintype I] (e : I → Fin 3) (Φ : Dev nD → I → sProp 𝕄) :
    (bigSep Finset.univ fun c : Dev nD => bigSep Finset.univ (Φ c)) = bigSep Finset.univ fun c : Dev nD => bigSep Finset.univ fun i => Φ (nb (e i) c) i := by
  let E : Dev nD × I ≃ Dev nD × I :=
    ⟨fun p => (nb (e p.2) p.1, p.2), fun p => (nb (e p.2) p.1, p.2), fun p => Prod.ext (nb_nb _ _) rfl, fun p => Prod.ext (nb_nb _ _) rfl⟩
  rw [← bigSep_univ_prod (fun p : Dev nD × I => Φ p.1 p.2), ← bigSep_univ_prod (fun p : Dev nD × I => Φ (nb (e p.2) p.1) p.2),
    bigSep_univ_equiv E]
  rfl

omit [FloatOps F] in
theorem toks_dealt : (bigSep Finset.univ fun c : Dev nD => (toks c : sProp 𝕄)) ⊢ bigSep Finset.univ fun c : Dev nD => payToks c := by
  unfold toks payToks
  rw [bigSep_sep', bigSep_sep', bigSep_sep', bigSep_sep', dealt (fun d : Fin 3 => d) (fun c d => (dutyTok ER (barCell c) 0 d : sProp 𝕄)),
    dealt (fun sc : Fin 11 × Fin 8 => dir sc.1) (fun c sc => (dutyTok ER (rCell c sc.1 sc.2) 0 0 : sProp 𝕄))]

omit [FloatOps F] in
theorem ghost_intro (K : Dev nD × Key → ℕ) (c : Dev nD) :
    iprop(records (xin m) K ∗ (bigSep Finset.univ fun k : Key => atPos ER (kcell (c, k)) 0 ∅ 0) ∗ payToks c) ⊢ G' m c := by
  have hc : (bigSep Finset.univ (copyToks c) : sProp 𝕄) = iprop((bigSep Finset.univ fun sc : Fin 11 × Fin 8 => dutyTok ER (sCell c sc.1 sc.2) 0 0)
      ∗ (bigSep Finset.univ fun sc : Fin 11 × Fin 8 => dutyTok ER (rCell (nb (dir sc.1) c) sc.1 sc.2) 0 0)
      ∗ bigSep Finset.univ fun sc : Fin 11 × Fin 8 => atPos ER (sCell c sc.1 sc.2) 0 ∅ 0) := by
    unfold copyToks; rw [bigSep_sep', bigSep_sep']
  unfold payToks G' ghost
  rw [by_key, by_kind, hc]
  iintro ⟨HR, ⟨HaB, HaS, HaR⟩, HtB, HtS, HtR⟩
  iexists K
  isplitl [HR]; · iexact HR
  isplitl [HaB]; · iexact HaB
  isplitl [HtB]; · iexact HtB
  isplitr [HaR]
  · isplitl [HtS]; · iexact HtS
    isplitl [HtR]; · iexact HtR
    iexact HaS
  iexact HaR

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (rd (xin m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Key => iprop(∃ κ : ℕ, cellInv ER (rd (xin m)) κ (kcell ck))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun ck : Dev nD × Key => (reached ER (kcell ck) 0 : sProp 𝕄))]
  iintro ⟨HI, ⟨Hat, #HR⟩, Htok⟩
  ihave HK := (BI.bigSep_exists_pi Finset.univ (fun (ck : Dev nD × Key) (κ : ℕ) => (cellInv ER (rd (xin m)) κ (kcell ck) : sProp 𝕄))) $$ HI
  icases HK with ⟨%K, #HI⟩
  ihave Htk := (toks_dealt (F := F)) $$ Htok
  iapply (bigSep_with (R := records (xin m) K) fun c _ => ghost_intro m K c)
  isplitr
  · unfold records; isplitl; · iexact HI
    iexact HR
  · iapply (Entails.of_eq (bigSep_sep' Finset.univ (fun c : Dev nD => bigSep Finset.univ fun k : Key => (atPos ER (kcell (c, k)) 0 ∅ 0 : sProp 𝕄)) payToks).symm)
    isplitl [Hat]; · iexact Hat
    iexact Htk

omit [FloatOps F] in
/-- The step all devices take together: every cell's invariant is allocated, and the rights are dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem rCell_eq_iff {a b : Dev nD} {s s' : Fin 11} {ch ch' : Fin 8} : Iff (rCell a s ch = rCell b s' ch') (a = b ∧ s = s' ∧ ch = ch') := by
  constructor
  · intro h
    have h := kcell_injective (show kcell (a, some (true, s, ch)) = kcell (b, some (true, s', ch')) from h)
    simp only [Prod.mk.injEq, Option.some.injEq, true_and] at h
    exact h
  · rintro ⟨rfl, rfl, rfl⟩; rfl
theorem barCell_eq_iff {a b : Dev nD} : Iff (barCell a = barCell b) (a = b) :=
  ⟨fun h => congrArg Prod.fst (kcell_injective (show kcell (a, none) = kcell (b, none) from h)), fun h => h ▸ rfl⟩
theorem rCell_ne_bar (a b : Dev nD) (s : Fin 11) (ch : Fin 8) : rCell a s ch ≠ barCell b := fun h => by
  have h := congrArg Prod.snd (kcell_injective (show kcell (a, some (true, s, ch)) = kcell (b, none) from h))
  cases h

/-- What the copies of `d` owe, as a sum over the copies. -/
theorem oweL_S₀ (d : Dev nD) : oweL d S₀ = ∑ p : Fin 11 × Fin 8, tallyAt (rCell (nb (dir p.1) d) p.1 p.2) () (credN p.1) := by
  simp only [S₀, oweL_cons, oweL_append]
  have h1 : oweL d (pairs3.map fun p => Atom.x p.1 p.2) = 0 := by
    unfold oweL; rw [List.map_map]; exact List.sum_eq_zero fun x hx => by obtain ⟨p, -, rfl⟩ := List.mem_map.mp hx; rfl
  have h2 : oweL d (pairs.map fun p => Atom.due p.1 p.2) = 0 := by
    unfold oweL; rw [List.map_map]; exact List.sum_eq_zero fun x hx => by obtain ⟨p, -, rfl⟩ := List.mem_map.mp hx; rfl
  rw [h1, h2, show owe d Atom.xr = 0 from rfl, zero_add, zero_add, add_zero, pairs_univ, List.sum_toFinset _ pairs_nodup]
  unfold oweL
  rw [List.map_map]
  rfl

theorem nb_eq_iff {e : Fin 3} {a b : Dev nD} : Iff (nb e a = b) (a = nb e b) :=
  ⟨fun h => by rw [← h, nb_nb], fun h => by rw [h, nb_nb]⟩

theorem oweL_at_recv (d c : Dev nD) (s : Fin 11) (ch : Fin 8) :
    oweL d S₀ (rCell c s ch) () = if d = nb (dir s) c then credN s else 0 := by
  rw [oweL_S₀, Finset.sum_apply, Finsupp.finset_sum_apply, Finset.sum_eq_single (s, ch)]
  · rw [tallyAt_apply]
    by_cases h : d = nb (dir s) c
    · rw [if_pos h, if_pos ⟨by rw [h, nb_nb], rfl⟩]
    · rw [if_neg h, if_neg fun h' => h (nb_eq_iff.mp (rCell_eq_iff.mp h'.1).1.symm)]
  · intro p _ hp
    rw [tallyAt_apply, if_neg]
    rintro ⟨h, -⟩
    have h := rCell_eq_iff.mp h
    exact hp (Prod.ext h.2.1.symm h.2.2.symm)
  · intro h; exact absurd (Finset.mem_univ _) h
theorem oweL_at_bar (d c : Dev nD) : oweL d S₀ (barCell c) () = 0 := by
  by_contra h
  obtain ⟨s, ch, -, hg⟩ := oweL_pos d S₀ (barCell c) () (Nat.pos_of_ne_zero h)
  exact rCell_ne_bar _ _ _ _ hg.symm

theorem bar_tally (d c : Dev nD) (e : Fin 3) : tallyAt (barCell (nb e d)) () 1 (barCell c) () = if d = nb e c then 1 else 0 := by
  rw [tallyAt_apply]
  by_cases h : d = nb e c
  · rw [if_pos h, if_pos ⟨by rw [h, nb_nb], rfl⟩]
  · rw [if_neg h, if_neg fun h' => h (nb_eq_iff.mp (barCell_eq_iff.mp h'.1).symm)]

theorem owed_bar (d c : Dev nD) : O₀ d (barCell c) () = (((if d = nb 2 c then 1 else 0) + (if d = nb 1 c then 1 else 0)) + (if d = nb 0 c then 1 else 0)) := by
  unfold O₀
  rw [Pi.add_apply, Finsupp.add_apply, Pi.add_apply, Finsupp.add_apply, Pi.add_apply, Finsupp.add_apply, oweL_at_bar, bar_tally, bar_tally, bar_tally, zero_add]
theorem owed_recv (d c : Dev nD) (s : Fin 11) (ch : Fin 8) : O₀ d (rCell c s ch) () = if d = nb (dir s) c then credN s else 0 := by
  unfold O₀
  rw [Pi.add_apply, Finsupp.add_apply, Pi.add_apply, Finsupp.add_apply, Pi.add_apply, Finsupp.add_apply, oweL_at_recv,
    tallyAt_ne_cell (rCell_ne_bar _ _ _ _), tallyAt_ne_cell (rCell_ne_bar _ _ _ _), tallyAt_ne_cell (rCell_ne_bar _ _ _ _)]
  rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nb 2 c) fun _ => 1, Finset.sum_ite_eq' Finset.univ (nb 1 c) fun _ => 1, Finset.sum_ite_eq' Finset.univ (nb 0 c) fun _ => 1,
    if_pos (Finset.mem_univ _), if_pos (Finset.mem_univ _), if_pos (Finset.mem_univ _)]
theorem launch_recv (c : Dev nD) (s : Fin 11) (ch : Fin 8) :
    tallyOn (rCell c s ch) (launchCredit (Pipeline.owing O₀) 0 (rCell c s ch)) = (tallyAt (rCell c s ch) () (credN s) : CellTallies nD τ sig Unit) := by
  unfold tallyAt; refine congrArg _ (Finsupp.ext fun u => ?_); cases u
  rw [Pipeline.launchCredit_owing, Finsupp.single_eq_same, Finset.sum_congr rfl fun d _ => owed_recv d c s ch,
    Finset.sum_ite_eq' Finset.univ (nb (dir s) c) fun _ => credN s, if_pos (Finset.mem_univ _)]

/-- The receive semaphores among all. -/
def recvLoc : Fin 11 × Fin 8 ↪ SemLoc sig := ⟨fun sc => csem (some (true, sc)), fun a b h => by
  have := csem_injective h; exact congrArg Prod.snd (Option.some.inj this)⟩

omit [FloatOps F] in
theorem creds (c : Dev nD) :
    (Pipeline.launchCred O₀ c : sProp 𝕄) ⊢ iprop(cred (tallyAt (barCell c) () 3)
      ∗ bigSep Finset.univ fun sc : Fin 11 × Fin 8 => cred (tallyAt (rCell c sc.1 sc.2) () (credN sc.1))) := by
  unfold Pipeline.launchCred
  rw [bigSep_univ_at _ (SemLoc.reg barS), launch_bar]
  refine sep_mono_right ?_
  have hs : Finset.univ.map recvLoc ⊆ Finset.univ.erase (SemLoc.reg barS) := fun x hx => by
    obtain ⟨sc, -, rfl⟩ := Finset.mem_map.mp hx
    refine Finset.mem_erase.mpr ⟨fun h => ?_, Finset.mem_univ _⟩
    have h := csem_injective (show csem (some (true, sc)) = csem none from h)
    cases h
  refine (BI.bigSep_subset hs).trans ?_
  rw [bigSep_map]
  exact bigSep_mono fun sc _ => Entails.of_eq (congrArg cred (launch_recv c sc.1 sc.2))

/-! ## The side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (xin m) c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi_intro (c : Dev nD) :
    iprop(start (xin m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start (xin m) c from rfl]
  iintro ⟨Hs, -, -⟩
  iexact Hs

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from rfl, scopedRest0_eq, ownSems0_eq, unscopedSems0_eq, by_kind]
  unfold done
  rw [bigSep_sep']
  iintro ⟨⟨HzS, HzR⟩, HzB⟩
  isplitl [HzB]; · iexact HzB
  isplitl [HzS HzR]
  · isplitl [HzS]; · iexact HzS
    iexact HzR
  iempintro

theorem O₀_pos (c : Dev nD) (g : GSem nD τ sig) (u : Unit) (h : 0 < O₀ c g u) : g.1.2 = .tc ∧ 0 < lv g () := by
  have hb (e : Fin 3) (h : 0 < tallyAt (barCell (nb e c)) () 1 g u) : g.1.2 = .tc ∧ 0 < lv g () := by
    rw [tallyAt_apply] at h
    by_cases hg : g = barCell (nb e c) ∧ u = ()
    · rw [hg.1, lv_bar]; exact ⟨rfl, Nat.one_pos⟩
    · rw [if_neg hg] at h; exact absurd h (Nat.lt_irrefl 0)
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨s, ch, -, rfl⟩ := oweL_pos c S₀ g u h
        rw [lv_recv]
        exact ⟨rfl, Nat.lt_of_lt_of_le Nat.two_pos (lvR_ge s ch)⟩
      · exact hb 2 h
    · exact hb 1 h
  · exact hb 0 h

theorem waits (c : Dev nD) : (levAts L lv : sProp 𝕄) ⊢ Pipeline.cellsWaits cfgs (dats m ρ) () 0 c :=
  Pipeline.cellsWaits_intro cfgs (dats m ρ) () 0 c fun w s t => by
    refine mayWait_of_above c _ _ fun g u h => ?_
    have h0 : lv ((c : Thread nD τ), SemLoc.dma ((cfg0.win w).sem s)) () = 0 := by
      have : dec (SemLoc.dma ((cfg0.win w).sem s)) = none := by revert w s; decide
      unfold lv; rw [this]
    rcases t with ⟨_ | _, ht⟩
    · have := O₀_pos c g u h
      exact ⟨this.1, lt_of_eq_of_lt h0 this.2⟩
    · exact absurd h (Nat.lt_irrefl 0)

/-! ## The run -/

/-- What an array holds at the end. -/
def finalA (c : Dev nD) (w : Fin cfg0.W) : Buf (Elt F) ((cfg0.win w).arr.view.loc (c : Thread nD τ)) := (dats m ρ 0 c).arrAt w cfg0.N

/-- Every device's two arrays hold what the pipeline leaves in them. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On eight devices, for any float values and from any memory with zero counters, every weakly fair execution of the
program ends, with the arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start (xin m)) (Y := fun c => unscopedSems0 c) (Z := fun _ => iprop(emp))
    (hX := start_intro m ρ) (hin := phi_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array is unchanged. -/
theorem finalA_in (c : Dev nD) : finalA m ρ c (0 : Fin 2) = m ((c : Thread nD τ).loc main_arg0) :=
  (dats (F := F) m ρ 0 c).arrAt_in (0 : Fin 2) rfl _

end Cert.MeshSum
-- ==== Proof.Value.lean ====
/-
The value: what every device's result array holds is its half of the columns of the two blocks' sum, which is what the
reference computes of the whole array.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Pointwise.Reduce
public import Idealize.ShloMosaic.PureOps.Ideal.Laws

@[expose] public section

noncomputable section

namespace Cert.MeshSum

open Cert.KernelIdeal Cert.KernelIdeal.Gen
open Idealize.ShloMosaic
open Idealize.ShloMosaic.TcCoe
open Idealize.SL.Sem

section Arrays

variable {F : FTy → Type} [FloatOps F]
variable (m : (ℓ : Loc nD τ sig) → Buf (Elt F) ℓ) (ρ : Dev nD → PrngReg)

/-- The input window is the whole argument array, so the block a device begins with is its argument. -/
theorem xin_eq (c : Dev nD) : xin m c = m ((c : Thread nD τ).loc main_arg0) :=
  Memref.read_access_unit_zero (Elt F) main_arg0
    (show (fun a => win0_0.index (0 : Fin 1) a * main_arg0.ty.shape.size a) = fun _ => 0 by
      funext a; fin_cases a <;> decide) _ _

/-- The output array's last write is the one point's, and it is the sum. -/
theorem finalA_out_read (c : Dev nD) :
    (win0_1.blk (0 : Fin 1)).view.read (Elt F) (finalA m ρ c (1 : Fin 2)) = final (xin m) c := by
  have step : finalA m ρ c (1 : Fin 2)
      = (win0_1.blk (0 : Fin 1)).view.write (Elt F) ((dats m ρ 0 c).arrAt (1 : Fin 2) 0) (final (xin m) c) Finset.univ := by
    refine ((dats m ρ 0 c).arrAt_succ (1 : Fin 2) (0 : Fin 1)).trans ?_
    rw [if_pos (show (cfg0.win (1 : Fin 2)).flush (0 : Fin 1) = true by decide)]
    rfl
  rw [step]
  exact View.read_write_univ _ _

/-- The output window is the whole result array, so that is what the result array holds. -/
theorem finalA_out (c : Dev nD) : finalA m ρ c (1 : Fin 2) = final (xin m) c :=
  (Memref.read_access_unit_zero (Elt F) main_v1
    (show (fun a => win0_1.index (0 : Fin 1) a * main_v1.ty.shape.size a) = fun _ => 0 by
      funext a; fin_cases a <;> decide) _ _).symm.trans (finalA_out_read m ρ c)

end Arrays

/-! ## Which entries of the whole array are added -/

/-- Whatever a device is sent comes from a device of the other block. -/
theorem srcDev_half (c : Dev nD) (b : Fin 12) : (srcDev c b).val / 4 = 1 - c.val / 4 := by
  revert c b; decide +kernel

/-- The device's block of the argument is the one its first mesh coordinate names, with nothing cut on the other axes; -/
theorem argBlock (c : Dev nD) :
    (Layout.meshLin [2, 2, 2] c.val [0] = c.val / 4) ∧ Layout.meshLin [2, 2, 2] c.val [] = 0 := by
  revert c; decide +kernel

/-- The whole array both programs work on. -/
abbrev Whole : Type := (⟨3, ![2, 4096, 2048]⟩ : Shape).Idx → EReal

/-- The whole array's block `k` at row `r` and column `n`. -/
def entry (w : Whole) (k r n : ℕ) (hk : k < 2) (hr : r < 4096) (hn : n < 2048) : EReal := w (ix3 ⟨k, hk⟩ ⟨r, hr⟩ ⟨n, hn⟩)

theorem half_lt_two (c : Dev nD) : c.val / 4 < 2 := by
  have : c.val < 8 := c.isLt
  omega

/-- A device's argument, read in the columns that the device `e` works on. -/
theorem arg_at (w : Whole) (c e : Dev nD) (r : Fin 4096) (n : Fin 1024) :
    (Layout.blockN ⟨3, ![1, 4096, 2048]⟩ ⟨3, ![2, 4096, 2048]⟩ (Layout.meshBlock [2, 2, 2] ![[0], [], []] c) w : S1x4096x2048.Idx → EReal)
        (xAt e r n)
      = entry w (c.val / 4) r.val (1024 * (e.val / 4) + n.val) (half_lt_two c) r.isLt (half_lt e n) := by
  rw [Layout.blockN_apply]
  refine congrArg w (funext fun a => Fin.ext ?_)
  rw [Layout.TilesN.idx_val]
  match a with
  | ⟨0, _⟩ =>
    show Layout.meshLin [2, 2, 2] c.val [0] * 1 + 0 = c.val / 4
    rw [(argBlock c).1, Nat.mul_one, Nat.add_zero]
  | ⟨1, _⟩ =>
    show Layout.meshLin [2, 2, 2] c.val [] * 4096 + r.val = r.val
    rw [(argBlock c).2, Nat.zero_mul, Nat.zero_add]
  | ⟨2, _⟩ =>
    show Layout.meshLin [2, 2, 2] c.val [] * 2048 + (1024 * (e.val / 4) + n.val) = 1024 * (e.val / 4) + n.val
    rw [(argBlock c).2, Nat.zero_mul, Nat.zero_add]

/-- Over the extended reals the reference's sum at an index is block zero plus block one there. -/
theorem sum_at (w : Whole) (j : (⟨2, ![4096, 2048]⟩ : Shape).Idx) :
    (Host.reduceAdd (F := Ideal) (φ := .f32) w (constant Cert.ReferenceIdeal.S_ .f32 0x00000000#32)
      Cert.ReferenceIdeal.Gen.reducesTo_S2x4096x2048_S4096x2048_d0 Cert.ReferenceIdeal.Gen.h_S_ j : EReal)
      = entry w 0 (j 0).val (j 1).val (by decide) (j 0).isLt (j 1).isLt
        + entry w 1 (j 0).val (j 1).val (by decide) (j 0).isLt (j 1).isLt := by
  rw [Host.reduceAdd_apply, Ideal.hostReduceAdd_def, show constant (F := Ideal) Cert.ReferenceIdeal.S_ .f32 0x00000000#32 (Shape.Idx.first Cert.ReferenceIdeal.Gen.h_S_) = Ideal.ofBits .f32 0x00000000#32 from rfl]
  refine (Ideal.hostReduceAdd_r3_a0 _ w _ j).trans ?_
  rw [Fin.sum_univ_two]
  refine (congrArg (· + _) (Ideal.ofBits_zero_f32)).trans ?_
  rw [zero_add]
  rfl

/-- What a device ends with at an index is the sum of the two blocks there, in its half of the columns. -/
theorem final_at (w : Whole) (X : Inputs Ideal)
    (hX : ∀ d, X d = Layout.blockN ⟨3, ![1, 4096, 2048]⟩ ⟨3, ![2, 4096, 2048]⟩ (Layout.meshBlock [2, 2, 2] ![[0], [], []] d) w)
    (c : Dev nD) (i : S4096x1024.Idx) :
    (final X c i : EReal)
      = entry w 0 (i 0).val (1024 * (c.val / 4) + (i 1).val) (by decide) (i 0).isLt (half_lt c (i 1))
        + entry w 1 (i 0).val (1024 * (c.val / 4) + (i 1).val) (by decide) (i 0).isLt (half_lt c (i 1)) := by
  have sent := (congrFun (hX (srcDev c (band (i 0)))) (xAt c (i 0) (i 1))).trans (arg_at w _ c (i 0) (i 1))
  have own := (congrFun (hX c) (xAt c (i 0) (i 1))).trans (arg_at w c c (i 0) (i 1))
  refine Eq.trans (b := entry w _ _ _ _ _ _ + entry w _ _ _ _ _ _) (congrArg₂ (fun a b : EReal => a + b) sent own) ?_
  have block : ∀ (k k' : ℕ) (hk : k < 2) (hk' : k' < 2), k = k' →
      entry w k (i 0).val (1024 * (c.val / 4) + (i 1).val) hk (i 0).isLt (half_lt c (i 1))
        = entry w k' (i 0).val (1024 * (c.val / 4) + (i 1).val) hk' (i 0).isLt (half_lt c (i 1)) := by
    intro k k' _ _ h; subst h; rfl
  have hs := srcDev_half c (band (i 0))
  rcases (show c.val / 4 = 0 ∨ c.val / 4 = 1 by have := half_lt_two c; omega) with h | h
  · rw [block _ 1 _ (by decide) (by omega), block (c.val / 4) 0 _ (by decide) h]
    exact add_comm _ _
  · rw [block _ 0 _ (by decide) (by omega), block (c.val / 4) 1 _ (by decide) h]

/-- So every device ends with its half of the columns of the reference's result. -/
theorem final_eq (w : Whole) (X : Inputs Ideal)
    (hX : ∀ d, X d = Layout.blockN ⟨3, ![1, 4096, 2048]⟩ ⟨3, ![2, 4096, 2048]⟩ (Layout.meshBlock [2, 2, 2] ![[0], [], []] d) w)
    (c : Dev nD) :
    final X c = Layout.blockN ⟨2, ![4096, 1024]⟩ ⟨2, ![4096, 2048]⟩ (Layout.meshBlock [2, 2, 2] ![[], [0]] c)
      (Host.reduceAdd (F := Ideal) (φ := .f32) w (constant Cert.ReferenceIdeal.S_ .f32 0x00000000#32)
        Cert.ReferenceIdeal.Gen.reducesTo_S2x4096x2048_S4096x2048_d0 Cert.ReferenceIdeal.Gen.h_S_) := by
  funext i
  refine (final_at w X hX c i).trans ?_
  rw [Layout.blockN_apply]
  refine Eq.trans ?_ (sum_at w _).symm
  have place : ∀ (k r r' n n' : ℕ) (hk : k < 2) (hr : r < 4096) (hr' : r' < 4096) (hn : n < 2048) (hn' : n' < 2048),
      r = r' → n = n' → entry w k r n hk hr hn = entry w k r' n' hk hr' hn' := by
    intro k r r' n n' _ _ _ _ _ h h'; subst h; subst h'; rfl
  have row : (i 0).val = Layout.meshLin [2, 2, 2] c.val [] * 4096 + (i 0).val := by
    rw [(argBlock c).2, Nat.zero_mul, Nat.zero_add]
  have col : 1024 * (c.val / 4) + (i 1).val = Layout.meshLin [2, 2, 2] c.val [0] * 1024 + (i 1).val := by
    rw [(argBlock c).1, Nat.mul_comm]
  exact congrArg₂ (fun a b : EReal => a + b) (place 0 _ _ _ _ _ _ _ _ _ row col) (place 1 _ _ _ _ _ _ _ _ _ row col)

/-! ## The claims -/

set_option maxRecDepth 100000 in
/-- The kernel's body and its ideal reading's are the same text. -/
theorem same_body : Cert.Kernel.cc0_body (F := Bits) = Cert.KernelIdeal.cc0_body (F := Bits) := rfl

set_option maxRecDepth 100000 in
/-- So the two tables of bodies are the same; -/
theorem same_defs₀ : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => exact congrFun (congrFun (congrFun (congrFun (congrFun (congrFun same_body _) _) _) _) _) _
  | ⟨_ + 1, h⟩, _ => exact absurd h (Nat.not_lt.2 (Nat.le_add_left _ _))

/-- and so are the two tables with the pipeline's own labels. -/
theorem same_defs : Cert.Kernel.defs (F := Bits) = Cert.KernelIdeal.defs (F := Bits) :=
  congrArg (Pipeline.defs (Cert.KernelIdeal.pcfgs (F := Bits))) same_defs₀

/-- The kernel runs on its machine values, its argument ends unchanged and every counter ends at zero. -/
theorem frame_kernel : Cert.quiescent_Kernel := by
  intro m ρ _
  rw [same_defs]
  exact (θ_run Cert.KernelIdeal.defs _ _).mono (fun _ h => ⟨fun c => (h.1 c (0 : Fin 2)).trans (finalA_in m ρ c), h.2⟩)
    (run_main (F := Bits) m ρ)

/-- The same of its ideal reading, over the extended reals. -/
theorem frame_kernelIdeal : Cert.quiescent_KernelIdeal := fun m ρ _ =>
  (θ_run Cert.KernelIdeal.defs _ _).mono (fun _ h => ⟨fun c => (h.1 c (0 : Fin 2)).trans (finalA_in m ρ c), h.2⟩)
    (run_main (F := Ideal) m ρ)

/-- The reference runs, its argument ends unchanged, and it has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over the extended reals every device's result is its part of the reference's. -/
theorem value : Cert.algebraic_KernelIdeal_ReferenceIdeal := fun m ρ m' ρ' _ hm =>
  ⟨_, (θ_run Cert.KernelIdeal.defs _ _).mono
      (fun _ h c => ⟨(h.1 c (1 : Fin 2)).trans ((finalA_out m ρ c).trans
        (final_eq _ (xin m) (fun d => (xin_eq m d).trans (hm d)) c)), (h.1 c (0 : Fin 2)).trans (finalA_in m ρ c)⟩)
      (run_main (F := Ideal) m ρ),
    (θ_run Cert.ReferenceIdeal.defs _ _).mono (fun _ h => h 0) (Cert.ReferenceIdeal.Value.run m' ρ')⟩

end Cert.MeshSum
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate, each from the module that proves it; the ideal reading rewrites no operation, so that
claim is immediate. -/
theorem claim : Cert.Claim := ⟨Cert.Kernel.Gen.facts, Cert.KernelIdeal.Gen.facts, Cert.ReferenceIdeal.Gen.facts,
  Cert.MeshSum.frame_kernel, Cert.MeshSum.frame_kernelIdeal, Cert.MeshSum.frame_referenceIdeal, trivial, Cert.MeshSum.value⟩

end Cert.Proof

end
